-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gf256_inputs [hPre_gf256_inputs : Cert.Pre_gf256_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_gf256_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gf256_inputs [hPre_gf256_inputs : Cert.Pre_gf256_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gf256_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gf256_inputs [hKernelIdeal : Cert.KernelIdeal.Facts] [hPre_gf256_inputs : Cert.Pre_gf256_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gf256_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gf256_inputs [hReferenceIdeal : Cert.ReferenceIdeal.Facts] [hPre_gf256_inputs : Cert.Pre_gf256_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gf256_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log_n" .f32 0x40B15208#32 ((Real.log 255 : ℝ) : EReal)

def algebraic_KernelIdeal_ReferenceIdeal_pre_gf256_inputs [hKernelIdeal : Cert.KernelIdeal.Facts] [hReferenceIdeal : Cert.ReferenceIdeal.Facts] [hPre_gf256_inputs : Cert.Pre_gf256_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gf256_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gf256_inputs : Cert.Pre_gf256_inputs.Facts),
    quiescent_Kernel (hKernel := hKernel)
    ∧ quiescent_KernelIdeal (hKernelIdeal := hKernelIdeal)
    ∧ quiescent_KernelIdeal_pre_gf256_inputs (hKernelIdeal := hKernelIdeal) (hPre_gf256_inputs := hPre_gf256_inputs)
    ∧ quiescent_ReferenceIdeal (hReferenceIdeal := hReferenceIdeal)
    ∧ quiescent_ReferenceIdeal_pre_gf256_inputs (hReferenceIdeal := hReferenceIdeal) (hPre_gf256_inputs := hPre_gf256_inputs)
    ∧ preserves_Kernel_KernelIdeal
    ∧ algebraic_KernelIdeal_ReferenceIdeal_pre_gf256_inputs (hKernelIdeal := hKernelIdeal) (hReferenceIdeal := hReferenceIdeal) (hPre_gf256_inputs := hPre_gf256_inputs)
-- ==== Pre_gf256_inputs.lean ====
abbrev S1024x256 : Shape := ⟨2, ![1024, 256]⟩
abbrev S255x256 : Shape := ⟨2, ![255, 256]⟩
abbrev S_ : Shape := ⟨0, ![]⟩

class Facts : Prop where
  bcast_S_S255x256 : S_.BroadcastsInDim S255x256 (![] : Fin 0 → Fin S255x256.rank)
  reducesTo_S255x256_S_d0_1 : S255x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn_where {F : FTy → Type} [FloatOps F] (arg0 : IVec S255x256 1) (arg1 : IVec S255x256 32) (arg2 : IVec S_ 32) : IVec S255x256 32 :=
  let v0 : IVec S_ 32 := id arg2
  let v1 : IVec S255x256 32 := broadcastInDim S255x256 ![] bcast_S_S255x256 v0
  let v2 : IVec S255x256 32 := select arg0 arg1 v1
  v2

def fn_where_0 {F : FTy → Type} [FloatOps F] (arg0 : IVec S255x256 1) (arg1 : IVec S_ 32) (arg2 : IVec S_ 32) : IVec S255x256 32 :=
  let v0 : IVec S255x256 32 := broadcastInDim S255x256 ![] bcast_S_S255x256 arg1
  let v1 : IVec S255x256 32 := broadcastInDim S255x256 ![] bcast_S_S255x256 arg2
  let v2 : IVec S255x256 32 := select arg0 v0 v1
  v2

def fn_part11 {F : FTy → Type} [FloatOps F] (main_v164 : IVec S_ 1) (main_v167 : IVec S_ 1) (main_v173 : IVec S_ 1) : IVec S_ 1 :=
  let main_v174 : IVec S_ 1 := andi main_v167 main_v173
  let main_v175 : IVec S_ 1 := andi main_v164 main_v174
  main_v175

def fn_part10 {F : FTy → Type} [FloatOps F] (main_arg0 : FVec F S1024x256 .f32) (main_arg1 : FVec F S1024x256 .f32) (main_arg2 : IVec S255x256 32) (main_v3 : IVec S255x256 32) (main_v143 : IVec S255x256 32) (main_c_81 : IVec S_ 32) : IVec S_ 1 :=
  let main_v157 : IVec S255x256 32 := broadcastInDim S255x256 ![] bcast_S_S255x256 main_c_81
  let main_v158 : IVec S255x256 1 := cmpi .sge main_arg2 main_v157
  let main_c_82 : IVec S_ 32 := constantI S_ 32 256#32
  let main_v159 : IVec S255x256 32 := broadcastInDim S255x256 ![] bcast_S_S255x256 main_c_82
  let main_v160 : IVec S255x256 1 := cmpi .slt main_arg2 main_v159
  let main_v161 : IVec S255x256 1 := andi main_v158 main_v160
  let main_v162 : IVec S255x256 1 := cmpi .eq main_v143 main_v3
  let main_v163 : IVec S255x256 1 := andi main_v161 main_v162
  let main_c_83 : IVec S_ 1 := constantI S_ 1 1#1
  let main_v164 : IVec S_ 1 := (fun x v => Host.reduce IntOp.andi x v reducesTo_S255x256_S_d0_1 h_S_) main_v163 main_c_83
  let main_cst : FVec F S_ .f32 := constant S_ .f32 0xC2200000#32
  let main_v165 : FVec F S1024x256 .f32 := broadcastInDim S1024x256 ![] bcast_S_S1024x256 main_cst
  let main_v166 : IVec S1024x256 1 := cmpf .oge main_arg0 main_v165
  let main_c_84 : IVec S_ 1 := constantI S_ 1 1#1
  let main_v167 : IVec S_ 1 := (fun x v => Host.reduce IntOp.andi x v reducesTo_S1024x256_S_d0_1 h_S_) main_v166 main_c_84
  let main_cst_85 : FVec F S_ .f32 := constant S_ .f32 0xC2200000#32
  let main_v168 : FVec F S1024x256 .f32 := broadcastInDim S1024x256 ![] bcast_S_S1024x256 main_cst_85
  let main_v169 : IVec S1024x256 1 := cmpf .oge main_arg1 main_v168
  let main_cst_86 : FVec F S_ .f32 := constant S_ .f32 0x7F800000#32
  let main_v170 : FVec F S1024x256 .f32 := broadcastInDim S1024x256 ![] bcast_S_S1024x256 main_cst_86
  let main_v171 : IVec S1024x256 1 := cmpf .olt main_arg1 main_v170
  let main_v172 : IVec S1024x256 1 := andi main_v169 main_v171
  let main_c_87 : IVec S_ 1 := constantI S_ 1 1#1
  let main_v173 : IVec S_ 1 := (fun x v => Host.reduce IntOp.andi x v reducesTo_S1024x256_S_d0_1 h_S_) main_v172 main_c_87
  fn_part11 (F := F) main_v164 main_v167 main_v173

def fn_part9 {F : FTy → Type} [FloatOps F] (main_arg0 : FVec F S1024x256 .f32) (main_arg1 : FVec F S1024x256 .f32) (main_arg2 : IVec S255x256 32) (main_v3 : IVec S255x256 32) (main_v124 : IVec S255x256 32) (main_v126 : IVec S255x256 32) (main_v137 : IVec S255x256 32) (main_v141 : IVec S255x256 1) : IVec S_ 1 :=
  let main_c_73 : IVec S_ 32 := constantI S_ 32 0#32
  let main_v142 : IVec S255x256 32 := fn_where (F := F) main_v141 main_v137 main_c_73
  let main_v143 : IVec S255x256 32 := xori main_v124 main_v142
  let main_c_74 : IVec S_ 32 := constantI S_ 32 1#32
  let main_v144 : IVec S255x256 32 := broadcastInDim S255x256 ![] bcast_S_S255x256 main_c_74
  let main_v145 : IVec S255x256 32 := Host.shrsi main_v126 main_v144
  let main_c_75 : IVec S_ 32 := constantI S_ 32 128#32
  let main_v146 : IVec S255x256 32 := broadcastInDim S255x256 ![] bcast_S_S255x256 main_c_75
  let main_v147 : IVec S255x256 32 := andi main_v137 main_v146
  let main_c_76 : IVec S_ 32 := constantI S_ 32 0#32
  let main_v148 : IVec S255x256 32 := broadcastInDim S255x256 ![] bcast_S_S255x256 main_c_76
  let main_v149 : IVec S255x256 1 := cmpi .ne main_v147 main_v148
  let main_c_77 : IVec S_ 32 := constantI S_ 32 1#32
  let main_v150 : IVec S255x256 32 := broadcastInDim S255x256 ![] bcast_S_S255x256 main_c_77
  let main_v151 : IVec S255x256 32 := Host.shli main_v137 main_v150
  let main_c_78 : IVec S_ 32 := constantI S_ 32 255#32
  let main_v152 : IVec S255x256 32 := broadcastInDim S255x256 ![] bcast_S_S255x256 main_c_78
  let main_v153 : IVec S255x256 32 := andi main_v151 main_v152
  let main_c_79 : IVec S_ 32 := constantI S_ 32 27#32
  let main_c_80 : IVec S_ 32 := constantI S_ 32 0#32
  let main_v154 : IVec S255x256 32 := fn_where_0 (F := F) main_v149 main_c_79 main_c_80
  let main_v155 : IVec S255x256 32 := id main_v154
  let main_v156 : IVec S255x256 32 := xori main_v153 main_v155
  let main_c_81 : IVec S_ 32 := constantI S_ 32 0#32
  fn_part10 (F := F) main_arg0 main_arg1 main_arg2 main_v3 main_v143 main_c_81

def fn_part8 {F : FTy → Type} [FloatOps F] (main_arg0 : FVec F S1024x256 .f32) (main_arg1 : FVec F S1024x256 .f32) (main_arg2 : IVec S255x256 32) (main_v3 : IVec S255x256 32) (main_v107 : IVec S255x256 32) (main_v118 : IVec S255x256 32) (main_v124 : IVec S255x256 32) (main_v125 : IVec S255x256 32) : IVec S_ 1 :=
  let main_v126 : IVec S255x256 32 := Host.shrsi main_v107 main_v125
  let main_c_65 : IVec S_ 32 := constantI S_ 32 128#32
  let main_v127 : IVec S255x256 32 := broadcastInDim S255x256 ![] bcast_S_S255x256 main_c_65
  let main_v128 : IVec S255x256 32 := andi main_v118 main_v127
  let main_c_66 : IVec S_ 32 := constantI S_ 32 0#32
  let main_v129 : IVec S255x256 32 := broadcastInDim S255x256 ![] bcast_S_S255x256 main_c_66
  let main_v130 : IVec S255x256 1 := cmpi .ne main_v128 main_v129
  let main_c_67 : IVec S_ 32 := constantI S_ 32 1#32
  let main_v131 : IVec S255x256 32 := broadcastInDim S255x256 ![] bcast_S_S255x256 main_c_67
  let main_v132 : IVec S255x256 32 := Host.shli main_v118 main_v131
  let main_c_68 : IVec S_ 32 := constantI S_ 32 255#32
  let main_v133 : IVec S255x256 32 := broadcastInDim S255x256 ![] bcast_S_S255x256 main_c_68
  let main_v134 : IVec S255x256 32 := andi main_v132 main_v133
  let main_c_69 : IVec S_ 32 := constantI S_ 32 27#32
  let main_c_70 : IVec S_ 32 := constantI S_ 32 0#32
  let main_v135 : IVec S255x256 32 := fn_where_0 (F := F) main_v130 main_c_69 main_c_70
  let main_v136 : IVec S255x256 32 := id main_v135
  let main_v137 : IVec S255x256 32 := xori main_v134 main_v136
  let main_c_71 : IVec S_ 32 := constantI S_ 32 1#32
  let main_v138 : IVec S255x256 32 := broadcastInDim S255x256 ![] bcast_S_S255x256 main_c_71
  let main_v139 : IVec S255x256 32 := andi main_v126 main_v138
  let main_c_72 : IVec S_ 32 := constantI S_ 32 0#32
  let main_v140 : IVec S255x256 32 := broadcastInDim S255x256 ![] bcast_S_S255x256 main_c_72
  let main_v141 : IVec S255x256 1 := cmpi .ne main_v139 main_v140
  fn_part9 (F := F) main_arg0 main_arg1 main_arg2 main_v3 main_v124 main_v126 main_v137 main_v141

def fn_part7 {F : FTy → Type} [FloatOps F] (main_arg0 : FVec F S1024x256 .f32) (main_arg1 : FVec F S1024x256 .f32) (main_arg2 : IVec S255x256 32) (main_v3 : IVec S255x256 32) (main_v99 : IVec S255x256 32) (main_v105 : IVec S255x256 32) (main_v107 : IVec S255x256 32) (main_v109 : IVec S255x256 32) (main_c_56 : IVec S_ 32) : IVec S_ 1 :=
  let main_v110 : IVec S255x256 32 := broadcastInDim S255x256 ![] bcast_S_S255x256 main_c_56
  let main_v111 : IVec S255x256 1 := cmpi .ne main_v109 main_v110
  let main_c_57 : IVec S_ 32 := constantI S_ 32 1#32
  let main_v112 : IVec S255x256 32 := broadcastInDim S255x256 ![] bcast_S_S255x256 main_c_57
  let main_v113 : IVec S255x256 32 := Host.shli main_v99 main_v112
  let main_c_58 : IVec S_ 32 := constantI S_ 32 255#32
  let main_v114 : IVec S255x256 32 := broadcastInDim S255x256 ![] bcast_S_S255x256 main_c_58
  let main_v115 : IVec S255x256 32 := andi main_v113 main_v114
  let main_c_59 : IVec S_ 32 := constantI S_ 32 27#32
  let main_c_60 : IVec S_ 32 := constantI S_ 32 0#32
  let main_v116 : IVec S255x256 32 := fn_where_0 (F := F) main_v111 main_c_59 main_c_60
  let main_v117 : IVec S255x256 32 := id main_v116
  let main_v118 : IVec S255x256 32 := xori main_v115 main_v117
  let main_c_61 : IVec S_ 32 := constantI S_ 32 1#32
  let main_v119 : IVec S255x256 32 := broadcastInDim S255x256 ![] bcast_S_S255x256 main_c_61
  let main_v120 : IVec S255x256 32 := andi main_v107 main_v119
  let main_c_62 : IVec S_ 32 := constantI S_ 32 0#32
  let main_v121 : IVec S255x256 32 := broadcastInDim S255x256 ![] bcast_S_S255x256 main_c_62
  let main_v122 : IVec S255x256 1 := cmpi .ne main_v120 main_v121
  let main_c_63 : IVec S_ 32 := constantI S_ 32 0#32
  let main_v123 : IVec S255x256 32 := fn_where (F := F) main_v122 main_v118 main_c_63
  let main_v124 : IVec S255x256 32 := xori main_v105 main_v123
  let main_c_64 : IVec S_ 32 := constantI S_ 32 1#32
  let main_v125 : IVec S255x256 32 := broadcastInDim S255x256 ![] bcast_S_S255x256 main_c_64
  fn_part8 (F := F) main_arg0 main_arg1 main_arg2 main_v3 main_v107 main_v118 main_v124 main_v125

def fn_part6 {F : FTy → Type} [FloatOps F] (main_arg0 : FVec F S1024x256 .f32) (main_arg1 : FVec F S1024x256 .f32) (main_arg2 : IVec S255x256 32) (main_v3 : IVec S255x256 32) (main_v86 : IVec S255x256 32) (main_v88 : IVec S255x256 32) (main_v92 : IVec S255x256 1) (main_v94 : IVec S255x256 32) : IVec S_ 1 :=
  let main_c_48 : IVec S_ 32 := constantI S_ 32 255#32
  let main_v95 : IVec S255x256 32 := broadcastInDim S255x256 ![] bcast_S_S255x256 main_c_48
  let main_v96 : IVec S255x256 32 := andi main_v94 main_v95
  let main_c_49 : IVec S_ 32 := constantI S_ 32 27#32
  let main_c_50 : IVec S_ 32 := constantI S_ 32 0#32
  let main_v97 : IVec S255x256 32 := fn_where_0 (F := F) main_v92 main_c_49 main_c_50
  let main_v98 : IVec S255x256 32 := id main_v97
  let main_v99 : IVec S255x256 32 := xori main_v96 main_v98
  let main_c_51 : IVec S_ 32 := constantI S_ 32 1#32
  let main_v100 : IVec S255x256 32 := broadcastInDim S255x256 ![] bcast_S_S255x256 main_c_51
  let main_v101 : IVec S255x256 32 := andi main_v88 main_v100
  let main_c_52 : IVec S_ 32 := constantI S_ 32 0#32
  let main_v102 : IVec S255x256 32 := broadcastInDim S255x256 ![] bcast_S_S255x256 main_c_52
  let main_v103 : IVec S255x256 1 := cmpi .ne main_v101 main_v102
  let main_c_53 : IVec S_ 32 := constantI S_ 32 0#32
  let main_v104 : IVec S255x256 32 := fn_where (F := F) main_v103 main_v99 main_c_53
  let main_v105 : IVec S255x256 32 := xori main_v86 main_v104
  let main_c_54 : IVec S_ 32 := constantI S_ 32 1#32
  let main_v106 : IVec S255x256 32 := broadcastInDim S255x256 ![] bcast_S_S255x256 main_c_54
  let main_v107 : IVec S255x256 32 := Host.shrsi main_v88 main_v106
  let main_c_55 : IVec S_ 32 := constantI S_ 32 128#32
  let main_v108 : IVec S255x256 32 := broadcastInDim S255x256 ![] bcast_S_S255x256 main_c_55
  let main_v109 : IVec S255x256 32 := andi main_v99 main_v108
  let main_c_56 : IVec S_ 32 := constantI S_ 32 0#32
  fn_part7 (F := F) main_arg0 main_arg1 main_arg2 main_v3 main_v99 main_v105 main_v107 main_v109 main_c_56

def fn_part5 {F : FTy → Type} [FloatOps F] (main_arg0 : FVec F S1024x256 .f32) (main_arg1 : FVec F S1024x256 .f32) (main_arg2 : IVec S255x256 32) (main_v3 : IVec S255x256 32) (main_v67 : IVec S255x256 32) (main_v69 : IVec S255x256 32) (main_v73 : IVec S255x256 1) (main_v77 : IVec S255x256 32) (main_c_39 : IVec S_ 32) (main_c_40 : IVec S_ 32) : IVec S_ 1 :=
  let main_v78 : IVec S255x256 32 := fn_where_0 (F := F) main_v73 main_c_39 main_c_40
  let main_v79 : IVec S255x256 32 := id main_v78
  let main_v80 : IVec S255x256 32 := xori main_v77 main_v79
  let main_c_41 : IVec S_ 32 := constantI S_ 32 1#32
  let main_v81 : IVec S255x256 32 := broadcastInDim S255x256 ![] bcast_S_S255x256 main_c_41
  let main_v82 : IVec S255x256 32 := andi main_v69 main_v81
  let main_c_42 : IVec S_ 32 := constantI S_ 32 0#32
  let main_v83 : IVec S255x256 32 := broadcastInDim S255x256 ![] bcast_S_S255x256 main_c_42
  let main_v84 : IVec S255x256 1 := cmpi .ne main_v82 main_v83
  let main_c_43 : IVec S_ 32 := constantI S_ 32 0#32
  let main_v85 : IVec S255x256 32 := fn_where (F := F) main_v84 main_v80 main_c_43
  let main_v86 : IVec S255x256 32 := xori main_v67 main_v85
  let main_c_44 : IVec S_ 32 := constantI S_ 32 1#32
  let main_v87 : IVec S255x256 32 := broadcastInDim S255x256 ![] bcast_S_S255x256 main_c_44
  let main_v88 : IVec S255x256 32 := Host.shrsi main_v69 main_v87
  let main_c_45 : IVec S_ 32 := constantI S_ 32 128#32
  let main_v89 : IVec S255x256 32 := broadcastInDim S255x256 ![] bcast_S_S255x256 main_c_45
  let main_v90 : IVec S255x256 32 := andi main_v80 main_v89
  let main_c_46 : IVec S_ 32 := constantI S_ 32 0#32
  let main_v91 : IVec S255x256 32 := broadcastInDim S255x256 ![] bcast_S_S255x256 main_c_46
  let main_v92 : IVec S255x256 1 := cmpi .ne main_v90 main_v91
  let main_c_47 : IVec S_ 32 := constantI S_ 32 1#32
  let main_v93 : IVec S255x256 32 := broadcastInDim S255x256 ![] bcast_S_S255x256 main_c_47
  let main_v94 : IVec S255x256 32 := Host.shli main_v80 main_v93
  fn_part6 (F := F) main_arg0 main_arg1 main_arg2 main_v3 main_v86 main_v88 main_v92 main_v94

def fn_part4 {F : FTy → Type} [FloatOps F] (main_arg0 : FVec F S1024x256 .f32) (main_arg1 : FVec F S1024x256 .f32) (main_arg2 : IVec S255x256 32) (main_v3 : IVec S255x256 32) (main_v48 : IVec S255x256 32) (main_v50 : IVec S255x256 32) (main_v61 : IVec S255x256 32) (main_v62 : IVec S255x256 32) : IVec S_ 1 :=
  let main_v63 : IVec S255x256 32 := andi main_v50 main_v62
  let main_c_32 : IVec S_ 32 := constantI S_ 32 0#32
  let main_v64 : IVec S255x256 32 := broadcastInDim S255x256 ![] bcast_S_S255x256 main_c_32
  let main_v65 : IVec S255x256 1 := cmpi .ne main_v63 main_v64
  let main_c_33 : IVec S_ 32 := constantI S_ 32 0#32
  let main_v66 : IVec S255x256 32 := fn_where (F := F) main_v65 main_v61 main_c_33
  let main_v67 : IVec S255x256 32 := xori main_v48 main_v66
  let main_c_34 : IVec S_ 32 := constantI S_ 32 1#32
  let main_v68 : IVec S255x256 32 := broadcastInDim S255x256 ![] bcast_S_S255x256 main_c_34
  let main_v69 : IVec S255x256 32 := Host.shrsi main_v50 main_v68
  let main_c_35 : IVec S_ 32 := constantI S_ 32 128#32
  let main_v70 : IVec S255x256 32 := broadcastInDim S255x256 ![] bcast_S_S255x256 main_c_35
  let main_v71 : IVec S255x256 32 := andi main_v61 main_v70
  let main_c_36 : IVec S_ 32 := constantI S_ 32 0#32
  let main_v72 : IVec S255x256 32 := broadcastInDim S255x256 ![] bcast_S_S255x256 main_c_36
  let main_v73 : IVec S255x256 1 := cmpi .ne main_v71 main_v72
  let main_c_37 : IVec S_ 32 := constantI S_ 32 1#32
  let main_v74 : IVec S255x256 32 := broadcastInDim S255x256 ![] bcast_S_S255x256 main_c_37
  let main_v75 : IVec S255x256 32 := Host.shli main_v61 main_v74
  let main_c_38 : IVec S_ 32 := constantI S_ 32 255#32
  let main_v76 : IVec S255x256 32 := broadcastInDim S255x256 ![] bcast_S_S255x256 main_c_38
  let main_v77 : IVec S255x256 32 := andi main_v75 main_v76
  let main_c_39 : IVec S_ 32 := constantI S_ 32 27#32
  let main_c_40 : IVec S_ 32 := constantI S_ 32 0#32
  fn_part5 (F := F) main_arg0 main_arg1 main_arg2 main_v3 main_v67 main_v69 main_v73 main_v77 main_c_39 main_c_40

def fn_part3 {F : FTy → Type} [FloatOps F] (main_arg0 : FVec F S1024x256 .f32) (main_arg1 : FVec F S1024x256 .f32) (main_arg2 : IVec S255x256 32) (main_v3 : IVec S255x256 32) (main_v29 : IVec S255x256 32) (main_v31 : IVec S255x256 32) (main_v42 : IVec S255x256 32) (main_v46 : IVec S255x256 1) (main_c_23 : IVec S_ 32) : IVec S_ 1 :=
  let main_v47 : IVec S255x256 32 := fn_where (F := F) main_v46 main_v42 main_c_23
  let main_v48 : IVec S255x256 32 := xori main_v29 main_v47
  let main_c_24 : IVec S_ 32 := constantI S_ 32 1#32
  let main_v49 : IVec S255x256 32 := broadcastInDim S255x256 ![] bcast_S_S255x256 main_c_24
  let main_v50 : IVec S255x256 32 := Host.shrsi main_v31 main_v49
  let main_c_25 : IVec S_ 32 := constantI S_ 32 128#32
  let main_v51 : IVec S255x256 32 := broadcastInDim S255x256 ![] bcast_S_S255x256 main_c_25
  let main_v52 : IVec S255x256 32 := andi main_v42 main_v51
  let main_c_26 : IVec S_ 32 := constantI S_ 32 0#32
  let main_v53 : IVec S255x256 32 := broadcastInDim S255x256 ![] bcast_S_S255x256 main_c_26
  let main_v54 : IVec S255x256 1 := cmpi .ne main_v52 main_v53
  let main_c_27 : IVec S_ 32 := constantI S_ 32 1#32
  let main_v55 : IVec S255x256 32 := broadcastInDim S255x256 ![] bcast_S_S255x256 main_c_27
  let main_v56 : IVec S255x256 32 := Host.shli main_v42 main_v55
  let main_c_28 : IVec S_ 32 := constantI S_ 32 255#32
  let main_v57 : IVec S255x256 32 := broadcastInDim S255x256 ![] bcast_S_S255x256 main_c_28
  let main_v58 : IVec S255x256 32 := andi main_v56 main_v57
  let main_c_29 : IVec S_ 32 := constantI S_ 32 27#32
  let main_c_30 : IVec S_ 32 := constantI S_ 32 0#32
  let main_v59 : IVec S255x256 32 := fn_where_0 (F := F) main_v54 main_c_29 main_c_30
  let main_v60 : IVec S255x256 32 := id main_v59
  let main_v61 : IVec S255x256 32 := xori main_v58 main_v60
  let main_c_31 : IVec S_ 32 := constantI S_ 32 1#32
  let main_v62 : IVec S255x256 32 := broadcastInDim S255x256 ![] bcast_S_S255x256 main_c_31
  fn_part4 (F := F) main_arg0 main_arg1 main_arg2 main_v3 main_v48 main_v50 main_v61 main_v62

def fn_part2 {F : FTy → Type} [FloatOps F] (main_arg0 : FVec F S1024x256 .f32) (main_arg1 : FVec F S1024x256 .f32) (main_arg2 : IVec S255x256 32) (main_v3 : IVec S255x256 32) (main_v23 : IVec S255x256 32) (main_v29 : IVec S255x256 32) (main_v31 : IVec S255x256 32) : IVec S_ 1 :=
  let main_c_15 : IVec S_ 32 := constantI S_ 32 128#32
  let main_v32 : IVec S255x256 32 := broadcastInDim S255x256 ![] bcast_S_S255x256 main_c_15
  let main_v33 : IVec S255x256 32 := andi main_v23 main_v32
  let main_c_16 : IVec S_ 32 := constantI S_ 32 0#32
  let main_v34 : IVec S255x256 32 := broadcastInDim S255x256 ![] bcast_S_S255x256 main_c_16
  let main_v35 : IVec S255x256 1 := cmpi .ne main_v33 main_v34
  let main_c_17 : IVec S_ 32 := constantI S_ 32 1#32
  let main_v36 : IVec S255x256 32 := broadcastInDim S255x256 ![] bcast_S_S255x256 main_c_17
  let main_v37 : IVec S255x256 32 := Host.shli main_v23 main_v36
  let main_c_18 : IVec S_ 32 := constantI S_ 32 255#32
  let main_v38 : IVec S255x256 32 := broadcastInDim S255x256 ![] bcast_S_S255x256 main_c_18
  let main_v39 : IVec S255x256 32 := andi main_v37 main_v38
  let main_c_19 : IVec S_ 32 := constantI S_ 32 27#32
  let main_c_20 : IVec S_ 32 := constantI S_ 32 0#32
  let main_v40 : IVec S255x256 32 := fn_where_0 (F := F) main_v35 main_c_19 main_c_20
  let main_v41 : IVec S255x256 32 := id main_v40
  let main_v42 : IVec S255x256 32 := xori main_v39 main_v41
  let main_c_21 : IVec S_ 32 := constantI S_ 32 1#32
  let main_v43 : IVec S255x256 32 := broadcastInDim S255x256 ![] bcast_S_S255x256 main_c_21
  let main_v44 : IVec S255x256 32 := andi main_v31 main_v43
  let main_c_22 : IVec S_ 32 := constantI S_ 32 0#32
  let main_v45 : IVec S255x256 32 := broadcastInDim S255x256 ![] bcast_S_S255x256 main_c_22
  let main_v46 : IVec S255x256 1 := cmpi .ne main_v44 main_v45
  let main_c_23 : IVec S_ 32 := constantI S_ 32 0#32
  fn_part3 (F := F) main_arg0 main_arg1 main_arg2 main_v3 main_v29 main_v31 main_v42 main_v46 main_c_23

def fn_part1 {F : FTy → Type} [FloatOps F] (main_arg0 : FVec F S1024x256 .f32) (main_arg1 : FVec F S1024x256 .f32) (main_arg2 : IVec S255x256 32) (main_v2 : IVec S255x256 32) (main_v3 : IVec S255x256 32) (main_v10 : IVec S255x256 32) (main_v12 : IVec S255x256 32) (main_v14 : IVec S255x256 32) (main_v15 : IVec S255x256 32) : IVec S_ 1 :=
  let main_v16 : IVec S255x256 1 := cmpi .ne main_v14 main_v15
  let main_c_7 : IVec S_ 32 := constantI S_ 32 1#32
  let main_v17 : IVec S255x256 32 := broadcastInDim S255x256 ![] bcast_S_S255x256 main_c_7
  let main_v18 : IVec S255x256 32 := Host.shli main_v2 main_v17
  let main_c_8 : IVec S_ 32 := constantI S_ 32 255#32
  let main_v19 : IVec S255x256 32 := broadcastInDim S255x256 ![] bcast_S_S255x256 main_c_8
  let main_v20 : IVec S255x256 32 := andi main_v18 main_v19
  let main_c_9 : IVec S_ 32 := constantI S_ 32 27#32
  let main_c_10 : IVec S_ 32 := constantI S_ 32 0#32
  let main_v21 : IVec S255x256 32 := fn_where_0 (F := F) main_v16 main_c_9 main_c_10
  let main_v22 : IVec S255x256 32 := id main_v21
  let main_v23 : IVec S255x256 32 := xori main_v20 main_v22
  let main_c_11 : IVec S_ 32 := constantI S_ 32 1#32
  let main_v24 : IVec S255x256 32 := broadcastInDim S255x256 ![] bcast_S_S255x256 main_c_11
  let main_v25 : IVec S255x256 32 := andi main_v12 main_v24
  let main_c_12 : IVec S_ 32 := constantI S_ 32 0#32
  let main_v26 : IVec S255x256 32 := broadcastInDim S255x256 ![] bcast_S_S255x256 main_c_12
  let main_v27 : IVec S255x256 1 := cmpi .ne main_v25 main_v26
  let main_c_13 : IVec S_ 32 := constantI S_ 32 0#32
  let main_v28 : IVec S255x256 32 := fn_where (F := F) main_v27 main_v23 main_c_13
  let main_v29 : IVec S255x256 32 := xori main_v10 main_v28
  let main_c_14 : IVec S_ 32 := constantI S_ 32 1#32
  let main_v30 : IVec S255x256 32 := broadcastInDim S255x256 ![] bcast_S_S255x256 main_c_14
  let main_v31 : IVec S255x256 32 := Host.shrsi main_v12 main_v30
  fn_part2 (F := F) main_arg0 main_arg1 main_arg2 main_v3 main_v23 main_v29 main_v31

def fn {F : FTy → Type} [FloatOps F] (main_arg0 : FVec F S1024x256 .f32) (main_arg1 : FVec F S1024x256 .f32) (main_arg2 : IVec S255x256 32) : IVec S_ 1 :=
  let main_v0 : IVec S255x256 32 := iotaInDim S255x256 32 0
  let main_c : IVec S_ 32 := constantI S_ 32 1#32
  let main_v1 : IVec S255x256 32 := broadcastInDim S255x256 ![] bcast_S_S255x256 main_c
  let main_v2 : IVec S255x256 32 := addi main_v0 main_v1
  let main_v3 : IVec S255x256 32 := iotaInDim S255x256 32 1
  let main_c_0 : IVec S_ 32 := constantI S_ 32 0#32
  let main_v4 : IVec S255x256 32 := broadcastInDim S255x256 ![] bcast_S_S255x256 main_c_0
  let main_c_1 : IVec S_ 32 := constantI S_ 32 1#32
  let main_v5 : IVec S255x256 32 := broadcastInDim S255x256 ![] bcast_S_S255x256 main_c_1
  let main_v6 : IVec S255x256 32 := andi main_arg2 main_v5
  let main_c_2 : IVec S_ 32 := constantI S_ 32 0#32
  let main_v7 : IVec S255x256 32 := broadcastInDim S255x256 ![] bcast_S_S255x256 main_c_2
  let main_v8 : IVec S255x256 1 := cmpi .ne main_v6 main_v7
  let main_c_3 : IVec S_ 32 := constantI S_ 32 0#32
  let main_v9 : IVec S255x256 32 := fn_where (F := F) main_v8 main_v2 main_c_3
  let main_v10 : IVec S255x256 32 := xori main_v4 main_v9
  let main_c_4 : IVec S_ 32 := constantI S_ 32 1#32
  let main_v11 : IVec S255x256 32 := broadcastInDim S255x256 ![] bcast_S_S255x256 main_c_4
  let main_v12 : IVec S255x256 32 := Host.shrsi main_arg2 main_v11
  let main_c_5 : IVec S_ 32 := constantI S_ 32 128#32
  let main_v13 : IVec S255x256 32 := broadcastInDim S255x256 ![] bcast_S_S255x256 main_c_5
  let main_v14 : IVec S255x256 32 := andi main_v2 main_v13
  let main_c_6 : IVec S_ 32 := constantI S_ 32 0#32
  let main_v15 : IVec S255x256 32 := broadcastInDim S255x256 ![] bcast_S_S255x256 main_c_6
  fn_part1 (F := F) main_arg0 main_arg1 main_arg2 main_v2 main_v3 main_v10 main_v12 main_v14 main_v15
-- ==== Kernel.lean ====
abbrev S1024x256 : Shape := ⟨2, ![1024, 256]⟩
abbrev S255x256 : Shape := ⟨2, ![255, 256]⟩
abbrev S256 : Shape := ⟨1, ![256]⟩
abbrev S_ : Shape := ⟨0, ![]⟩
abbrev S256x1 : Shape := ⟨2, ![256, 1]⟩
abbrev S256x128 : Shape := ⟨2, ![256, 128]⟩
abbrev S256x256 : Shape := ⟨2, ![256, 256]⟩
abbrev S512x256 : Shape := ⟨2, ![512, 256]⟩
abbrev S512x128 : Shape := ⟨2, ![512, 128]⟩
abbrev S512x1 : Shape := ⟨2, ![512, 1]⟩

abbrev nBuf : Space → Nat
  | .hbm => 53
  | .vmem => 8
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S255x256, .i32⟩
  | .hbm, ⟨3, _⟩ => ⟨S256, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S256x1, .i32⟩
  | .hbm, ⟨11, _⟩ => ⟨S256x128, .i32⟩
  | .hbm, ⟨12, _⟩ => ⟨S256x128, .i32⟩
  | .hbm, ⟨13, _⟩ => ⟨S256x128, .i32⟩
  | .hbm, ⟨14, _⟩ => ⟨S_, .i32⟩
  | .hbm, ⟨15, _⟩ => ⟨S256x128, .i32⟩
  | .hbm, ⟨16, _⟩ => ⟨S256x128, .i32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S256x128, .i32⟩
  | .hbm, ⟨21, _⟩ => ⟨S_, .i32⟩
  | .hbm, ⟨22, _⟩ => ⟨S256x128, .i32⟩
  | .hbm, ⟨23, _⟩ => ⟨S256x128, .i1⟩
  | .hbm, ⟨24, _⟩ => ⟨S256x128, .f32⟩
  | .hbm, ⟨25, _⟩ => ⟨S_, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .i32⟩
  | .hbm, ⟨35, _⟩ => ⟨S_, .i32⟩
  | .hbm, ⟨36, _⟩ => ⟨S256x128, .i32⟩
  | .hbm, ⟨37, _⟩ => ⟨S256x128, .i1⟩
  | .hbm, ⟨38, _⟩ => ⟨S_, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S256x256, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S256x256, .f32⟩
  | .hbm, ⟨49, _⟩ => ⟨S256x256, .f32⟩
  | .hbm, ⟨50, _⟩ => ⟨S256x256, .bf16⟩
  | .hbm, ⟨51, _⟩ => ⟨S256x256, .bf16⟩
  | .hbm, ⟨52, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x256, .bf16⟩
  | .local _ .vmem, ⟨5, _⟩ => ⟨S256x256, .bf16⟩
  | .local _ .vmem, ⟨6, _⟩ => ⟨S512x256, .f32⟩
  | .local _ .vmem, ⟨7, _⟩ => ⟨S512x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_cst_1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_c_3 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_cst_4 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v16 : Ref sig .tc := ⟨.hbm, 28, rfl⟩
abbrev main_call0_v17 : Ref sig .tc := ⟨.hbm, 29, rfl⟩
abbrev main_call0_cst_5 : Ref sig .tc := ⟨.hbm, 30, rfl⟩
abbrev main_call0_call1_v0 : Ref sig .tc := ⟨.hbm, 31, rfl⟩
abbrev main_call0_call1_v1 : Ref sig .tc := ⟨.hbm, 32, rfl⟩
abbrev main_call0_v18 : Ref sig .tc := ⟨.hbm, 33, rfl⟩
abbrev main_call0_v19 : Ref sig .tc := ⟨.hbm, 34, rfl⟩
abbrev main_call0_c_6 : Ref sig .tc := ⟨.hbm, 35, rfl⟩
abbrev main_call0_v20 : Ref sig .tc := ⟨.hbm, 36, rfl⟩
abbrev main_call0_v21 : Ref sig .tc := ⟨.hbm, 37, rfl⟩
abbrev main_call0_cst_7 : Ref sig .tc := ⟨.hbm, 38, rfl⟩
abbrev main_call0_cst_8 : Ref sig .tc := ⟨.hbm, 39, rfl⟩
abbrev main_call0_call2_v0 : Ref sig .tc := ⟨.hbm, 40, rfl⟩
abbrev main_call0_call2_v1 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_v31 : Ref sig .tc := ⟨.hbm, 51, rfl⟩
abbrev main_v0 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log_n" => some ((Real.log 255 : ℝ) : EReal)
  | _ => none
-- ==== ReferenceIdeal.lean ====
abbrev S1024x256 : Shape := ⟨2, ![1024, 256]⟩
abbrev S255x256 : Shape := ⟨2, ![255, 256]⟩
abbrev S_ : Shape := ⟨0, ![]⟩
abbrev S1024 : Shape := ⟨1, ![1024]⟩
abbrev S1024x1 : Shape := ⟨2, ![1024, 1]⟩
abbrev S1024x255 : Shape := ⟨2, ![1024, 255]⟩
abbrev S255x256x1 : Shape := ⟨3, ![255, 256, 1]⟩
abbrev S1024x255x256 : Shape := ⟨3, ![1024, 255, 256]⟩
abbrev S1024x255x1 : Shape := ⟨3, ![1024, 255, 1]⟩
abbrev S1024x1x256 : Shape := ⟨3, ![1024, 1, 256]⟩
abbrev S1x1024x1 : Shape := ⟨3, ![1, 1024, 1]⟩
abbrev S2x1024x1 : Shape := ⟨3, ![2, 1024, 1]⟩

abbrev nBuf : Space → Nat
  | .hbm => 73
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S255x256, .i32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1024x1, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S1024x1, .f32⟩
  | .hbm, ⟨16, _⟩ => ⟨S1024x256, .f32⟩
  | .hbm, ⟨17, _⟩ => ⟨S1024x256, .f32⟩
  | .hbm, ⟨18, _⟩ => ⟨S1024x255, .f32⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024x1, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024, .f32⟩
  | .hbm, ⟨30, _⟩ => ⟨S1024x1, .f32⟩
  | .hbm, ⟨31, _⟩ => ⟨S1024x1, .f32⟩
  | .hbm, ⟨32, _⟩ => ⟨S1024x256, .f32⟩
  | .hbm, ⟨33, _⟩ => ⟨S1024x256, .f32⟩
  | .hbm, ⟨34, _⟩ => ⟨S_, .i32⟩
  | .hbm, ⟨35, _⟩ => ⟨S255x256, .i32⟩
  | .hbm, ⟨36, _⟩ => ⟨S255x256, .i1⟩
  | .hbm, ⟨37, _⟩ => ⟨S_, .i32⟩
  | .hbm, ⟨38, _⟩ => ⟨S255x256, .i32⟩
  | .hbm, ⟨39, _⟩ => ⟨S255x256, .i32⟩
  | .hbm, ⟨40, _⟩ => ⟨S255x256, .i32⟩
  | .hbm, ⟨41, _⟩ => ⟨S255x256x1, .i32⟩
  | .hbm, ⟨42, _⟩ => ⟨S1024x255x256, .f32⟩
  | .hbm, ⟨43, _⟩ => ⟨S1024x255x1, .f32⟩
  | .hbm, ⟨44, _⟩ => ⟨S1024x255x256, .f32⟩
  | .hbm, ⟨45, _⟩ => ⟨S1024x255x256, .f32⟩
  | .hbm, ⟨46, _⟩ => ⟨S_, .f32⟩
  | .hbm, ⟨47, _⟩ => ⟨S1024x256, .f32⟩
  | .hbm, ⟨48, _⟩ => ⟨S1024x1x256, .f32⟩
  | .hbm, ⟨49, _⟩ => ⟨S1024x255x256, .f32⟩
  | .hbm, ⟨50, _⟩ => ⟨S1024x255x256, .f32⟩
  | .hbm, ⟨51, _⟩ => ⟨S1024x255x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S1024x256, .f32⟩
  | .hbm, ⟨56, _⟩ => ⟨S1024x1, .f32⟩
  | .hbm, ⟨57, _⟩ => ⟨S1024x1, .f32⟩
  | .hbm, ⟨58, _⟩ => ⟨S1x1024x1, .f32⟩
  | .hbm, ⟨59, _⟩ => ⟨S1x1024x1, .f32⟩
  | .hbm, ⟨60, _⟩ => ⟨S2x1024x1, .f32⟩
  | .hbm, ⟨61, _⟩ => ⟨S_, .f32⟩
  | .hbm, ⟨62, _⟩ => ⟨S1024x1, .f32⟩
  | .hbm, ⟨63, _⟩ => ⟨S1x1024x1, .f32⟩
  | .hbm, ⟨64, _⟩ => ⟨S2x1024x1, .f32⟩
  | .hbm, ⟨65, _⟩ => ⟨S2x1024x1, .f32⟩
  | .hbm, ⟨66, _⟩ => ⟨S2x1024x1, .f32⟩
  | .hbm, ⟨67, _⟩ => ⟨S_, .f32⟩
  | .hbm, ⟨68, _⟩ => ⟨S1024x1, .f32⟩
  | .hbm, ⟨69, _⟩ => ⟨S1024x1, .f32⟩
  | .hbm, ⟨70, _⟩ => ⟨S1024x1, .f32⟩
  | .hbm, ⟨71, _⟩ => ⟨S1024x255, .f32⟩
  | .hbm, ⟨72, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v2 : Ref sig .tc := ⟨.hbm, 33, rfl⟩
abbrev main_c : Ref sig .tc := ⟨.hbm, 34, rfl⟩
abbrev main_v3 : Ref sig .tc := ⟨.hbm, 35, rfl⟩
abbrev main_v4 : Ref sig .tc := ⟨.hbm, 36, rfl⟩
abbrev main_c_0 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_1 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_2 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_3 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Proof.Dft.lean ====
/-
  The cosine transform of the cyclic group of 255 elements, over the reals: the 128 frequencies that the kernel keeps, the
  constant one counted once and the others twice, pick out the pairs whose exponents add up to a given one.
-/
module

public import Mathlib.Analysis.SpecialFunctions.Trigonometric.Basic
public import Mathlib.Analysis.SpecialFunctions.Trigonometric.Arctan

@[expose] public section

noncomputable section

namespace Cert.GfConv

open Finset

/-- The weight of frequency `k`: the constant frequency stands for itself, each other one also for its mirror image. -/
def weight (k : ℕ) : ℝ := if k = 0 then 1 else 2

/-- The angle of one step, a 255th of the circle. -/
def theta : ℝ := 2 * Real.pi / 255

/-- The partial sums of the weighted cosines, times twice the half angle's sine, are a single sine. -/
theorem sin_half_mul_sum (x : ℝ) (n : ℕ) :
    2 * Real.sin (x / 2) * ∑ k ∈ range (n + 1), weight k * Real.cos (k * x) = 2 * Real.sin ((n + 1 / 2) * x) := by
  induction n with
  | zero => simp [weight]; ring_nf
  | succ n ih =>
    rw [sum_range_succ, mul_add, ih]
    have h : Real.sin (((n + 1 : ℕ) + 1 / 2 : ℝ) * x) - Real.sin ((n + 1 / 2 : ℝ) * x)
        = 2 * Real.sin (x / 2) * Real.cos ((n + 1 : ℕ) * x) := by
      rw [Real.sin_sub_sin]
      congr 2
      · congr 1; push_cast; ring
      · push_cast; ring
    simp only [weight, Nat.add_eq_zero_iff, one_ne_zero, and_false, if_false]
    linarith

/-- At a multiple of the circle every cosine is one, so the weights add up to 255. -/
theorem sum_weight_of_dvd (n : ℤ) (h : (255 : ℤ) ∣ n) :
    ∑ k ∈ range 128, weight k * Real.cos (k * (theta * n)) = 255 := by
  obtain ⟨d, rfl⟩ := h
  have hc : ∀ k ∈ range 128, weight k * Real.cos (k * (theta * ((255 * d : ℤ) : ℝ))) = weight k := by
    intro k _
    have e : (k : ℝ) * (theta * ((255 * d : ℤ) : ℝ)) = ((k * d : ℤ) : ℝ) * (2 * Real.pi) := by
      unfold theta; push_cast; ring
    rw [e, Real.cos_int_mul_two_pi, mul_one]
  rw [sum_congr rfl hc, sum_range_succ']
  simp [weight]
  norm_num

/-- Off the multiples of the circle the weighted cosines cancel. -/
theorem sum_weight_of_not_dvd (n : ℤ) (h : ¬ (255 : ℤ) ∣ n) :
    ∑ k ∈ range 128, weight k * Real.cos (k * (theta * n)) = 0 := by
  have e := sin_half_mul_sum (theta * n) 127
  have r : Real.sin (((127 : ℕ) + 1 / 2 : ℝ) * (theta * n)) = 0 := by
    rw [show (((127 : ℕ) + 1 / 2 : ℝ) * (theta * n)) = n * Real.pi by unfold theta; push_cast; ring]
    exact Real.sin_int_mul_pi n
  rw [r, mul_zero] at e
  refine (mul_eq_zero.mp e).resolve_left fun hs => h ?_
  have hs' : Real.sin (theta * n / 2) = 0 := by linarith
  obtain ⟨d, hd⟩ := Real.sin_eq_zero_iff.mp hs'
  refine ⟨d, ?_⟩
  have hp := Real.pi_pos.ne'
  have : (n : ℝ) = 255 * d := by
    unfold theta at hd
    field_simp at hd
    linarith
  exact_mod_cast this

/-- One frequency: the product of two transforms, read back at an angle, is the double sum of the cosines of the
    angle sums. -/
theorem one_frequency {ι : Type} [Fintype ι] (F G α : ι → ℝ) (γ : ℝ) :
    ((∑ a, F a * Real.cos (α a)) * (∑ c, G c * Real.cos (α c)) - (∑ a, F a * Real.sin (α a)) * (∑ c, G c * Real.sin (α c)))
          * Real.cos γ
        + ((∑ a, F a * Real.cos (α a)) * (∑ c, G c * Real.sin (α c)) + (∑ a, F a * Real.sin (α a)) * (∑ c, G c * Real.cos (α c)))
          * Real.sin γ
      = ∑ a, ∑ c, F a * G c * Real.cos (α a + α c - γ) := by
  simp only [sum_mul_sum]
  simp only [← sum_sub_distrib, ← sum_add_distrib, sum_mul]
  refine sum_congr rfl fun a _ => sum_congr rfl fun c _ => ?_
  rw [Real.cos_sub, Real.cos_add, Real.sin_add]
  ring

/-- A common weight taken out of the two products of one frequency. -/
theorem factor_weight (X Y c s w : ℝ) : X * (c * w) + Y * (s * w) = w * (X * c + Y * s) := by ring

/-- The whole transform: over the frequencies below 128, the weighted products read back at exponent `l` are 255 times the
    sum over the pairs whose exponents add up to `l` modulo 255. -/
theorem transform {ι : Type} [Fintype ι] (F G : ι → ℝ) (L : ι → ℕ) (l : ℕ) :
    ∑ k ∈ range 128,
        (((∑ a, F a * Real.cos (theta * (L a * k : ℕ))) * (∑ c, G c * Real.cos (theta * (L c * k : ℕ)))
            - (∑ a, F a * Real.sin (theta * (L a * k : ℕ))) * (∑ c, G c * Real.sin (theta * (L c * k : ℕ))))
          * (Real.cos (theta * (l * k : ℕ)) * weight k)
        + ((∑ a, F a * Real.cos (theta * (L a * k : ℕ))) * (∑ c, G c * Real.sin (theta * (L c * k : ℕ)))
            + (∑ a, F a * Real.sin (theta * (L a * k : ℕ))) * (∑ c, G c * Real.cos (theta * (L c * k : ℕ))))
          * (Real.sin (theta * (l * k : ℕ)) * weight k))
      = ∑ a, ∑ c, F a * G c * (if (255 : ℤ) ∣ (L a : ℤ) + L c - l then 255 else 0) := by
  have h : ∀ a c, (if (255 : ℤ) ∣ (L a : ℤ) + L c - l then (255 : ℝ) else 0)
      = ∑ k ∈ range 128, weight k * Real.cos (k * (theta * ((L a : ℤ) + L c - l : ℤ))) := by
    intro a c
    split
    · rename_i hd; rw [sum_weight_of_dvd _ hd]
    · rename_i hd; rw [sum_weight_of_not_dvd _ hd]
  have r : (∑ a, ∑ c, F a * G c * (if (255 : ℤ) ∣ (L a : ℤ) + L c - l then (255 : ℝ) else 0))
      = ∑ k ∈ range 128, ∑ a, ∑ c, F a * G c * (weight k * Real.cos (k * (theta * ((L a : ℤ) + L c - l : ℤ)))) := by
    simp only [h, mul_sum]
    rw [sum_comm]
    refine Eq.trans ?_ sum_comm
    rw [sum_comm]
    exact sum_congr rfl fun a _ => sum_comm
  rw [r]
  refine sum_congr rfl fun k _ => ?_
  have e := one_frequency F G (fun a => theta * (L a * k : ℕ)) (theta * (l * k : ℕ))
  rw [factor_weight, e, mul_sum]
  refine sum_congr rfl fun a _ => ?_
  rw [mul_sum]
  refine sum_congr rfl fun c _ => ?_
  rw [show (theta * (L a * k : ℕ) + theta * (L c * k : ℕ) - theta * (l * k : ℕ)) = k * (theta * ((L a : ℤ) + L c - l : ℤ)) by
    push_cast; ring]
  ring

/-- An angle may be reduced modulo 255 steps before its cosine is taken. -/
theorem cos_mod (m : ℕ) : Real.cos (theta * (m % 255 : ℕ)) = Real.cos (theta * m) := by
  have e : theta * (m : ℝ) = theta * (m % 255 : ℕ) + (m / 255 : ℕ) * (2 * Real.pi) := by
    have := Nat.mod_add_div m 255
    have h : (m : ℝ) = (m % 255 : ℕ) + 255 * (m / 255 : ℕ) := by exact_mod_cast this.symm
    conv_lhs => rw [h]
    unfold theta; ring
  rw [e, Real.cos_add_nat_mul_two_pi]

/-- The same for the sine. -/
theorem sin_mod (m : ℕ) : Real.sin (theta * (m % 255 : ℕ)) = Real.sin (theta * m) := by
  have e : theta * (m : ℝ) = theta * (m % 255 : ℕ) + (m / 255 : ℕ) * (2 * Real.pi) := by
    have := Nat.mod_add_div m 255
    have h : (m : ℝ) = (m % 255 : ℕ) + 255 * (m / 255 : ℕ) := by exact_mod_cast this.symm
    conv_lhs => rw [h]
    unfold theta; ring
  rw [e, Real.sin_add_nat_mul_two_pi]

/-- Eight times the arc tangent of one, over 255, is the angle of one step. -/
theorem eight_arctan : 8 * Real.arctan 1 / 255 = theta := by
  rw [Real.arctan_one]; unfold theta; ring

end Cert.GfConv

end
-- ==== Proof.Gf.lean ====
/-
  The field of 256 elements as words: doubling, multiplication by shift and exclusive or, the powers of the generator 3, and
  the logarithm table that the kernel's program holds (`lit0`). The result is the rule of logarithms: if `a` times `c` is `b`,
  `a` not zero, then `c` is zero exactly when `b` is, and otherwise the logarithms of `a` and `c` add up to that of `b`
  modulo 255.
-/
module

public import proofs.«01_k».proof.KernelIdeal

@[expose] public section

set_option maxRecDepth 16384

namespace Cert.GfConv

open Idealize.ShloMosaic

/-- Twice a byte in the field: shifted by one place and reduced by the field's polynomial. -/
def dbl (a : BitVec 32) : BitVec 32 := ((a <<< 1) &&& 255#32) ^^^ (if a &&& 128#32 ≠ 0#32 then 27#32 else 0#32)

/-- The accumulator with `a` added where the lowest bit of `c` is set. -/
def acc (r a c : BitVec 32) : BitVec 32 := r ^^^ (if c &&& 1#32 ≠ 0#32 then a else 0#32)

/-- The lower `n` bits of `c` times `a`, added to `r`. -/
def mulFrom : ℕ → BitVec 32 → BitVec 32 → BitVec 32 → BitVec 32
  | 0, r, _, _ => r
  | n + 1, r, a, c => mulFrom n (acc r a c) (dbl a) (c.sshiftRight 1)

/-- The field's product, by eight steps. -/
def gfMul (a c : BitVec 32) : BitVec 32 := mulFrom 8 0#32 a c

/-- Three times a byte: the byte added to its double. -/
def tri (a : BitVec 32) : BitVec 32 := dbl a ^^^ a

/-- The test bit's mask keeps that bit. -/
theorem and_128 (a : BitVec 32) : a &&& 128#32 = if a.getLsbD 7 then 128#32 else 0#32 := by
  have h := BitVec.and_twoPow a 7
  exact h

/-- A mask distributes over exclusive or. -/
theorem xor_and (u v m : BitVec 32) : (u ^^^ v) &&& m = (u &&& m) ^^^ (v &&& m) := by
  ext i hi
  simp only [BitVec.getElem_and, BitVec.getElem_xor]
  cases u[i] <;> cases v[i] <;> cases m[i] <;> rfl

/-- Doubling is additive. -/
theorem dbl_xor (a b : BitVec 32) : dbl (a ^^^ b) = dbl a ^^^ dbl b := by
  unfold dbl
  simp only [and_128, BitVec.getLsbD_xor, BitVec.shiftLeft_xor_distrib, xor_and]
  generalize (a <<< 1) &&& 255#32 = u
  generalize (b <<< 1) &&& 255#32 = v
  have n : (128#32 : BitVec 32) ≠ 0#32 := by decide
  have z : (27#32 : BitVec 32) ^^^ 27#32 = 0#32 := by decide
  have e : (u ^^^ 27#32) ^^^ (v ^^^ 27#32) = (u ^^^ v) ^^^ (27#32 ^^^ 27#32) := by ac_rfl
  have e₁ : (u ^^^ 27#32) ^^^ v = (u ^^^ v) ^^^ 27#32 := by ac_rfl
  have e₂ : u ^^^ (v ^^^ 27#32) = (u ^^^ v) ^^^ 27#32 := by ac_rfl
  rw [z] at e
  cases a.getLsbD 7 <;> cases b.getLsbD 7 <;> simp [e, e₁, e₂]

/-- Tripling is additive. -/
theorem tri_xor (a b : BitVec 32) : tri (a ^^^ b) = tri a ^^^ tri b := by
  unfold tri
  rw [dbl_xor]
  ac_rfl

/-- Tripling commutes with doubling. -/
theorem dbl_tri (a : BitVec 32) : dbl (tri a) = tri (dbl a) := by
  unfold tri
  rw [dbl_xor]

/-- Zero tripled is zero. -/
theorem tri_zero : tri 0#32 = 0#32 := by decide

/-- A step of the product with both the accumulator and the factor tripled is the step tripled. -/
theorem acc_tri (r a c : BitVec 32) : acc (tri r) (tri a) c = tri (acc r a c) := by
  unfold acc
  rw [tri_xor]
  split
  · rfl
  · rw [tri_zero]

/-- So the product with its first factor tripled is the product tripled. -/
theorem mulFrom_tri (n : ℕ) : ∀ r a c, mulFrom n (tri r) (tri a) c = tri (mulFrom n r a c) := by
  induction n with
  | zero => intro r a c; rfl
  | succ n ih =>
    intro r a c
    show mulFrom n (acc (tri r) (tri a) c) (dbl (tri a)) _ = tri (mulFrom n (acc r a c) (dbl a) _)
    rw [acc_tri, dbl_tri, ih]

/-- The same for the whole product. -/
theorem gfMul_tri (a c : BitVec 32) : gfMul (tri a) c = tri (gfMul a c) := by
  have h := mulFrom_tri 8 0#32 a c
  rwa [tri_zero] at h

/-- And with the first factor tripled any number of times. -/
theorem gfMul_iterate (i : ℕ) (a c : BitVec 32) : gfMul (tri^[i] a) c = tri^[i] (gfMul a c) := by
  induction i with
  | zero => rfl
  | succ n ih => rw [Function.iterate_succ_apply', Function.iterate_succ_apply', gfMul_tri, ih]

/-- One times a byte is the byte. -/
theorem gfMul_one : ∀ c : Fin 256, gfMul 1#32 (BitVec.ofNat 32 c) = BitVec.ofNat 32 c := by decide +kernel

/-- The powers of 3 in the field, the exponents 0 to 254. -/
def powers : List ℕ := [
  1, 3, 5, 15, 17, 51, 85, 255, 26, 46, 114, 150, 161, 248, 19, 53,
  95, 225, 56, 72, 216, 115, 149, 164, 247, 2, 6, 10, 30, 34, 102, 170,
  229, 52, 92, 228, 55, 89, 235, 38, 106, 190, 217, 112, 144, 171, 230, 49,
  83, 245, 4, 12, 20, 60, 68, 204, 79, 209, 104, 184, 211, 110, 178, 205,
  76, 212, 103, 169, 224, 59, 77, 215, 98, 166, 241, 8, 24, 40, 120, 136,
  131, 158, 185, 208, 107, 189, 220, 127, 129, 152, 179, 206, 73, 219, 118, 154,
  181, 196, 87, 249, 16, 48, 80, 240, 11, 29, 39, 105, 187, 214, 97, 163,
  254, 25, 43, 125, 135, 146, 173, 236, 47, 113, 147, 174, 233, 32, 96, 160,
  251, 22, 58, 78, 210, 109, 183, 194, 93, 231, 50, 86, 250, 21, 63, 65,
  195, 94, 226, 61, 71, 201, 64, 192, 91, 237, 44, 116, 156, 191, 218, 117,
  159, 186, 213, 100, 172, 239, 42, 126, 130, 157, 188, 223, 122, 142, 137, 128,
  155, 182, 193, 88, 232, 35, 101, 175, 234, 37, 111, 177, 200, 67, 197, 84,
  252, 31, 33, 99, 165, 244, 7, 9, 27, 45, 119, 153, 176, 203, 70, 202,
  69, 207, 74, 222, 121, 139, 134, 145, 168, 227, 62, 66, 198, 81, 243, 14,
  18, 54, 90, 238, 41, 123, 141, 140, 143, 138, 133, 148, 167, 242, 13, 23,
  57, 75, 221, 124, 132, 151, 162, 253, 28, 36, 108, 180, 199, 82, 246
]

/-- The `i`-th power of 3 as the list holds it. -/
def power (i : ℕ) : ℕ := powers.getD i 0

/-- The kernel's table of logarithms, as natural numbers. -/
noncomputable def lg (a : Fin 256) : ℕ := (KernelIdeal.lit0 a).toNat

/-- Each listed power is three times the one before, around the circle. -/
theorem tri_power : ∀ i : Fin 255, tri (BitVec.ofNat 32 (power i)) = BitVec.ofNat 32 (power ((i + 1) % 255)) := by
  decide +kernel

/-- The listed powers are bytes, and none is zero. -/
theorem power_lt : ∀ i : Fin 255, power i < 256 ∧ power i ≠ 0 := by decide +kernel

/-- The table of logarithms undoes the list of powers. -/
theorem lg_power : ∀ i : Fin 255, lg ⟨power i % 256, Nat.mod_lt _ (by decide)⟩ = i := by decide +kernel

/-- The list of powers undoes the table of logarithms, off zero, and the logarithms are below 255. -/
theorem power_lg : ∀ a : Fin 256, lg a < 255 ∧ (a.val ≠ 0 → power (lg a) = a.val) := by decide +kernel

/-- Tripling one `n` times gives the listed power of the remainder of `n`. -/
theorem tri_iterate (n : ℕ) : tri^[n] 1#32 = BitVec.ofNat 32 (power (n % 255)) := by
  induction n with
  | zero => decide +kernel
  | succ n ih =>
    rw [Function.iterate_succ_apply', ih, tri_power ⟨n % 255, Nat.mod_lt _ (by decide)⟩]
    simp only [Nat.mod_add_mod]

/-- A nonzero byte is one tripled as many times as its logarithm says. -/
theorem eq_iterate (a : Fin 256) (h : a.val ≠ 0) : BitVec.ofNat 32 a.val = tri^[lg a] 1#32 := by
  rw [tri_iterate, Nat.mod_eq_of_lt (power_lg a).1, (power_lg a).2 h]

/-- Equal powers have equal exponents modulo 255. -/
theorem iterate_inj {m n : ℕ} (h : tri^[m] 1#32 = tri^[n] 1#32) : m % 255 = n % 255 := by
  rw [tri_iterate, tri_iterate] at h
  have hm := power_lt ⟨m % 255, Nat.mod_lt _ (by decide)⟩
  have hn := power_lt ⟨n % 255, Nat.mod_lt _ (by decide)⟩
  have h' := congrArg BitVec.toNat h
  rw [BitVec.toNat_ofNat, BitVec.toNat_ofNat, Nat.mod_eq_of_lt (lt_trans hm.1 (by decide)),
    Nat.mod_eq_of_lt (lt_trans hn.1 (by decide))] at h'
  have em := lg_power ⟨m % 255, Nat.mod_lt _ (by decide)⟩
  have en := lg_power ⟨n % 255, Nat.mod_lt _ (by decide)⟩
  simp only [h'] at em
  exact em.symm.trans en

/-- No power of 3 is zero. -/
theorem iterate_ne_zero (n : ℕ) : tri^[n] 1#32 ≠ 0#32 := by
  rw [tri_iterate]
  have hn := power_lt ⟨n % 255, Nat.mod_lt _ (by decide)⟩
  intro h
  have h' := congrArg BitVec.toNat h
  rw [BitVec.toNat_ofNat, Nat.mod_eq_of_lt (lt_trans hn.1 (by decide))] at h'
  exact hn.2 h'

/-- The product of nonzero bytes is the power whose exponent is the sum of the logarithms. -/
theorem gfMul_eq (a c : Fin 256) (ha : a.val ≠ 0) (hc : c.val ≠ 0) :
    gfMul (BitVec.ofNat 32 a.val) (BitVec.ofNat 32 c.val) = tri^[lg a + lg c] 1#32 := by
  rw [eq_iterate a ha, gfMul_iterate, gfMul_one, eq_iterate c hc, Function.iterate_add_apply]

/-- A byte times zero is zero. -/
theorem gfMul_zero (a : Fin 256) (ha : a.val ≠ 0) : gfMul (BitVec.ofNat 32 a.val) 0#32 = 0#32 := by
  rw [eq_iterate a ha, gfMul_iterate]
  have h0 : gfMul 1#32 0#32 = 0#32 := gfMul_one 0
  rw [h0]
  generalize lg a = n
  induction n with
  | zero => rfl
  | succ n ih => rw [Function.iterate_succ_apply', ih, tri_zero]

/-- A product with a nonzero first factor that is zero has a zero second factor. -/
theorem eq_zero_of_gfMul (a c : Fin 256) (ha : a.val ≠ 0)
    (h : gfMul (BitVec.ofNat 32 a.val) (BitVec.ofNat 32 c.val) = 0#32) : c.val = 0 := by
  by_contra hc
  rw [gfMul_eq a c ha hc] at h
  exact iterate_ne_zero _ h

/-- THE RULE OF LOGARITHMS: for `a` and `b` not zero and `a` times `c` equal to `b`, the byte `c` is not zero, and it is the
    only nonzero byte whose logarithm, added to that of `a`, is that of `b` modulo 255. -/
theorem lg_rule (a c b : Fin 256) (ha : a.val ≠ 0) (hb : b.val ≠ 0)
    (h : gfMul (BitVec.ofNat 32 a.val) (BitVec.ofNat 32 c.val) = BitVec.ofNat 32 b.val) :
    c.val ≠ 0 ∧ ∀ d : Fin 256, d.val ≠ 0 → ((255 : ℤ) ∣ (lg a : ℤ) + lg d - lg b ↔ d = c) := by
  have hc : c.val ≠ 0 := by
    intro hc
    rw [hc, gfMul_zero a ha, eq_iterate b hb] at h
    exact iterate_ne_zero _ h.symm
  refine ⟨hc, fun d hd => ?_⟩
  rw [gfMul_eq a c ha hc, eq_iterate b hb] at h
  have e := iterate_inj h
  have la := (power_lg a).1
  have lb := (power_lg b).1
  have lc := (power_lg c).1
  have ld := (power_lg d).1
  constructor
  · intro hdv
    have ecd : lg d = lg c := by omega
    have pd := (power_lg d).2 hd
    have pc := (power_lg c).2 hc
    rw [ecd] at pd
    exact Fin.ext (pd.symm.trans pc)
  · rintro rfl
    omega

end Cert.GfConv
-- ==== Proof.Row.lean ====
/-
  One row over the reals: the value that both programs leave at an entry, the transform that the kernel computes, and its
  lower bound.
-/
module

public import proofs.«01_k».proof.Proof.Dft
public import proofs.«01_k».proof.Proof.Gf
public import Mathlib.Analysis.SpecialFunctions.Log.Basic
public import Mathlib.Analysis.Complex.Exponential

@[expose] public section

set_option maxRecDepth 16384

noncomputable section

namespace Cert.GfConv

open Finset

/-- The weight of `z` under the convolution of `f` and `g`: the sum of `f a * g c` over the pairs whose product is `z`, where
    `t i z` is the byte that `i + 1` times gives `z`. Zero is the product of zero and anything, and of anything and zero. -/
def conv (f g : Fin 256 → ℝ) (t : Fin 255 → Fin 256 → Fin 256) (z : Fin 256) : ℝ :=
  if z.val = 0 then (∑ i : Fin 255, f i.succ) * g 0 + f 0 * ∑ c, g c else ∑ i : Fin 255, f i.succ * g (t i z)

/-- The logarithm of the probability of `z`, from two rows of logits. -/
def logProb (x y : Fin 256 → ℝ) (t : Fin 255 → Fin 256 → Fin 256) (z : Fin 256) : ℝ :=
  Real.log (conv (fun a => Real.exp (x a)) (fun a => Real.exp (y a)) t z
    / ((∑ a, Real.exp (x a)) * ∑ a, Real.exp (y a)))

/-- `t` lists the quotients of the field: `i + 1` times `t i b` is `b`. -/
def Quotients (t : Fin 255 → Fin 256 → Fin 256) : Prop :=
  ∀ (i : Fin 255) (b : Fin 256),
    gfMul (BitVec.ofNat 32 (i.val + 1)) (BitVec.ofNat 32 (t i b).val) = BitVec.ofNat 32 b.val

/-- The cosine table's entry: row zero is zero. -/
def cosT (a : Fin 256) (k : ℕ) : ℝ := if a.val = 0 then 0 else Real.cos (theta * (lg a * k : ℕ))

/-- The sine table's entry: row zero is zero. -/
def sinT (a : Fin 256) (k : ℕ) : ℝ := if a.val = 0 then 0 else Real.sin (theta * (lg a * k : ℕ))

/-- The quotient of zero is zero. -/
theorem quot_zero {t : Fin 255 → Fin 256 → Fin 256} (ht : Quotients t) (i : Fin 255) : t i 0 = 0 :=
  Fin.ext (eq_zero_of_gfMul i.succ _ (by simp) (ht i 0))

/-- Frequency zero of a row's transform is the sum over the nonzero bytes. -/
theorem cos_zero (f : Fin 256 → ℝ) : ∑ a, f a * cosT a 0 = ∑ i : Fin 255, f i.succ := by
  rw [Fin.sum_univ_succ]
  simp [cosT]

/-- A row's transform, as the transform of the row with its entry at zero put to zero. -/
theorem cosT_mul (f : Fin 256 → ℝ) (a : Fin 256) (k : ℕ) :
    f a * cosT a k = (if a.val = 0 then 0 else f a) * Real.cos (theta * (lg a * k : ℕ)) := by
  unfold cosT; split <;> simp

/-- The same for the sines. -/
theorem sinT_mul (f : Fin 256 → ℝ) (a : Fin 256) (k : ℕ) :
    f a * sinT a k = (if a.val = 0 then 0 else f a) * Real.sin (theta * (lg a * k : ℕ)) := by
  unfold sinT; split <;> simp

/-- What the kernel's two products compute at `z`, as sums over the frequencies. -/
def spectrum (f g : Fin 256 → ℝ) (z : Fin 256) : ℝ :=
  (∑ k : Fin 128, ((∑ a, f a * cosT a k) * (∑ a, g a * cosT a k) - (∑ a, f a * sinT a k) * (∑ a, g a * sinT a k))
      * (cosT z k * weight k))
    + ∑ k : Fin 128, ((∑ a, f a * cosT a k) * (∑ a, g a * sinT a k) + (∑ a, f a * sinT a k) * (∑ a, g a * cosT a k))
      * (sinT z k * weight k)

/-- THE TRANSFORM AT A NONZERO BYTE: 255 times the weight of `z` under the convolution. -/
theorem spectrum_eq (f g : Fin 256 → ℝ) {t : Fin 255 → Fin 256 → Fin 256} (ht : Quotients t) (z : Fin 256)
    (hz : z.val ≠ 0) : spectrum f g z = 255 * conv f g t z := by
  have h := transform (fun a : Fin 256 => if a.val = 0 then 0 else f a) (fun a : Fin 256 => if a.val = 0 then 0 else g a)
    lg (lg z)
  unfold spectrum conv
  rw [if_neg hz, ← Finset.sum_add_distrib]
  have e : ∀ k : ℕ, cosT z k = Real.cos (theta * (lg z * k : ℕ)) ∧ sinT z k = Real.sin (theta * (lg z * k : ℕ)) :=
    fun k => ⟨if_neg hz, if_neg hz⟩
  simp only [cosT_mul, sinT_mul, (e _).1, (e _).2]
  rw [Finset.sum_range] at h
  refine h.trans ?_
  rw [Fin.sum_univ_succ, Finset.mul_sum]
  have h0 : ∑ c : Fin 256, (if (0 : Fin 256).val = 0 then 0 else f 0) * (if c.val = 0 then 0 else g c)
      * (if (255 : ℤ) ∣ (lg 0 : ℤ) + lg c - lg z then (255 : ℝ) else 0) = 0 :=
    Finset.sum_eq_zero fun c _ => by rw [if_pos (by rfl), zero_mul, zero_mul]
  refine (congrArg (· + _) h0).trans ((zero_add _).trans (Finset.sum_congr rfl fun i _ => ?_))
  have hi : (i.succ : Fin 256).val ≠ 0 := by simp
  obtain ⟨hc, rule⟩ := lg_rule i.succ (t i z) z hi hz (ht i z)
  rw [Finset.sum_eq_single (t i z)]
  · rw [if_neg hi, if_neg hc, if_pos ((rule _ hc).2 rfl)]; ring
  · intro d _ hd
    by_cases h0 : d.val = 0
    · rw [if_pos h0]; ring
    · rw [if_neg (fun h => hd ((rule d h0).1 h))]; ring
  · intro h; exact absurd (Finset.mem_univ _) h

/-- The literal that the kernel keeps its logarithm's argument above. -/
def floorLit : ℝ := 10633824 / 2 ^ 123

/-- The literal lies below 255 · 255 · e⁻⁸⁰. -/
theorem floorLit_le : floorLit ≤ 255 * (255 * (Real.exp (-40) * Real.exp (-40))) := by
  have h1 : Real.exp 1 ≤ 2.719 := by
    refine (Real.exp_bound' (x := 1) (by norm_num) le_rfl (n := 8) (by norm_num)).trans ?_
    norm_num [Finset.sum_range_succ, Nat.factorial]
  have h80 : Real.exp 80 ≤ 2.719 ^ 80 := by
    have : Real.exp 80 = Real.exp 1 ^ 80 := by rw [← Real.exp_nat_mul]; norm_num
    rw [this]
    exact pow_le_pow_left₀ (Real.exp_pos _).le h1 _
  rw [← Real.exp_add, show (-40 : ℝ) + -40 = -80 by norm_num, Real.exp_neg]
  have hp : 0 < Real.exp 80 := Real.exp_pos _
  rw [← mul_assoc, ← div_eq_mul_inv, le_div_iff₀ hp]
  refine (mul_le_mul_of_nonneg_left h80 (by unfold floorLit; positivity)).trans ?_
  unfold floorLit
  norm_num

/-- Where no logit lies below −40, 255 times every weight is at least the literal. -/
theorem floorLit_le_conv (x y : Fin 256 → ℝ) (hx : ∀ a, -40 ≤ x a) (hy : ∀ a, -40 ≤ y a)
    (t : Fin 255 → Fin 256 → Fin 256) (z : Fin 256) :
    floorLit ≤ 255 * conv (fun a => Real.exp (x a)) (fun a => Real.exp (y a)) t z := by
  refine floorLit_le.trans (mul_le_mul_of_nonneg_left ?_ (by norm_num))
  have ex := fun a => Real.exp_le_exp.2 (hx a)
  have ey := fun a => Real.exp_le_exp.2 (hy a)
  have p := Real.exp_pos (-40)
  have step : ∀ s : Fin 255 → Fin 256,
      255 * (Real.exp (-40) * Real.exp (-40)) ≤ ∑ i : Fin 255, Real.exp (x i.succ) * Real.exp (y (s i)) := by
    intro s
    have := Finset.card_nsmul_le_sum (Finset.univ : Finset (Fin 255))
      (fun i : Fin 255 => Real.exp (x i.succ) * Real.exp (y (s i))) (Real.exp (-40) * Real.exp (-40))
      (fun i _ => mul_le_mul (ex _) (ey _) p.le (Real.exp_pos _).le)
    simpa using this
  unfold conv
  split
  · refine (step fun _ => 0).trans ?_
    rw [← Finset.sum_mul]
    have : 0 ≤ Real.exp (x 0) * ∑ c, Real.exp (y c) :=
      mul_nonneg (Real.exp_pos _).le (Finset.sum_nonneg fun _ _ => (Real.exp_pos _).le)
    linarith
  · exact step fun i => t i z

/-- A sum of exponentials over the bytes is positive. -/
theorem sum_exp_pos (x : Fin 256 → ℝ) : 0 < ∑ a, Real.exp (x a) :=
  Finset.sum_pos (fun _ _ => Real.exp_pos _) ⟨0, Finset.mem_univ _⟩

/-- What the kernel takes the logarithm of at `z`: the closed form at zero, the transform elsewhere. -/
def kernelArg (f g : Fin 256 → ℝ) (z : Fin 256) : ℝ :=
  if z.val = 0 then
    ((∑ a, f a * cosT a 0) * g 0 + f 0 * ((∑ a, g a * cosT a 0) + g 0)) * 255
  else spectrum f g z

/-- It is 255 times the weight of `z` under the convolution. -/
theorem kernelArg_eq (f g : Fin 256 → ℝ) {t : Fin 255 → Fin 256 → Fin 256} (ht : Quotients t) (z : Fin 256) :
    kernelArg f g z = 255 * conv f g t z := by
  unfold kernelArg
  split
  · rename_i hz
    unfold conv
    rw [if_pos hz, cos_zero, cos_zero, Fin.sum_univ_succ g]
    ring
  · rename_i hz
    exact spectrum_eq f g ht z hz

/-- THE KERNEL'S FORM: the logarithm of the bounded argument, less the logarithms of the two sums' product and of 255, is the
    logarithm of the probability. -/
theorem kernel_logProb (x y : Fin 256 → ℝ) (hx : ∀ a, -40 ≤ x a) (hy : ∀ a, -40 ≤ y a)
    {t : Fin 255 → Fin 256 → Fin 256} (ht : Quotients t) (z : Fin 256) :
    0 < max (kernelArg (fun a => Real.exp (x a)) (fun a => Real.exp (y a)) z) floorLit ∧
    Real.log (max (kernelArg (fun a => Real.exp (x a)) (fun a => Real.exp (y a)) z) floorLit)
      - (Real.log ((∑ a, Real.exp (x a)) * ∑ a, Real.exp (y a)) + Real.log 255) = logProb x y t z := by
  have b := floorLit_le_conv x y hx hy t z
  have p : 0 < floorLit := by unfold floorLit; positivity
  rw [kernelArg_eq _ _ ht, max_eq_left b]
  have hp := p.trans_le b
  have hc : 0 < conv (fun a => Real.exp (x a)) (fun a => Real.exp (y a)) t z := by linarith
  have hs := mul_pos (sum_exp_pos x) (sum_exp_pos y)
  refine ⟨hp, ?_⟩
  unfold logProb
  rw [Real.log_mul (by norm_num) hc.ne', Real.log_div hc.ne' hs.ne']
  ring

/-- The exponential of a logit less the logarithm of its row's sum is its probability. -/
theorem exp_sub_log (x : Fin 256 → ℝ) (a : Fin 256) :
    Real.exp (x a - Real.log (∑ b, Real.exp (x b))) = Real.exp (x a) / ∑ b, Real.exp (x b) := by
  rw [Real.exp_sub, Real.exp_log (sum_exp_pos x)]

/-- The logarithm of the sum, over the pairs that the table lists for `z`, of the products of probabilities. -/
def refPairs (x y : Fin 256 → ℝ) (t : Fin 255 → Fin 256 → Fin 256) (z : Fin 256) : ℝ :=
  Real.log (∑ i : Fin 255, Real.exp ((x i.succ - Real.log (∑ b, Real.exp (x b)))
    + (y (t i z) - Real.log (∑ b, Real.exp (y b)))))

/-- The sum that `refPairs` takes the logarithm of. -/
theorem pairs_eq (x y : Fin 256 → ℝ) (t : Fin 255 → Fin 256 → Fin 256) (z : Fin 256) :
    (∑ i : Fin 255, Real.exp ((x i.succ - Real.log (∑ b, Real.exp (x b)))
      + (y (t i z) - Real.log (∑ b, Real.exp (y b)))))
    = (∑ i : Fin 255, Real.exp (x i.succ) * Real.exp (y (t i z))) / ((∑ a, Real.exp (x a)) * ∑ a, Real.exp (y a)) := by
  rw [Finset.sum_div]
  refine Finset.sum_congr rfl fun i _ => ?_
  rw [Real.exp_add, exp_sub_log, exp_sub_log, div_mul_div_comm]

/-- THE REFERENCE'S FORM at a nonzero byte. -/
theorem refPairs_eq (x y : Fin 256 → ℝ) (t : Fin 255 → Fin 256 → Fin 256) (z : Fin 256) (hz : z.val ≠ 0) :
    refPairs x y t z = logProb x y t z := by
  unfold refPairs logProb conv
  rw [pairs_eq, if_neg hz]

/-- THE REFERENCE'S FORM at zero: the pairs that the table lists, and the first factor zero. -/
theorem ref_zero (x y : Fin 256 → ℝ) {t : Fin 255 → Fin 256 → Fin 256} (ht : Quotients t) :
    Real.log (Real.exp (refPairs x y t 0) + Real.exp (x 0 - Real.log (∑ b, Real.exp (x b)))) = logProb x y t 0 := by
  have hs := mul_pos (sum_exp_pos x) (sum_exp_pos y)
  have hp : 0 < ∑ i : Fin 255, Real.exp (x i.succ) * Real.exp (y (t i 0)) :=
    Finset.sum_pos (fun _ _ => mul_pos (Real.exp_pos _) (Real.exp_pos _)) ⟨0, Finset.mem_univ _⟩
  unfold refPairs logProb conv
  rw [pairs_eq, Real.exp_log (div_pos hp hs), exp_sub_log, if_pos (by rfl)]
  congr 1
  have h0 : ∀ i, t i 0 = 0 := quot_zero ht
  simp only [h0, ← Finset.sum_mul]
  have hx := (sum_exp_pos x).ne'
  have hy := (sum_exp_pos y).ne'
  field_simp

end Cert.GfConv

end
-- ==== Proof.Tables.lean ====
/-
  The two tables that the kernel's program makes before its launch, over the extended reals: the forward table's entry
  `(a, k)` is the cosine, or the sine, of the logarithm of `a` times `k` steps, and the inverse table is its transpose,
  weighted.
-/
module

public import proofs.«01_k».proof.Proof.Gen.KernelIdeal.Frame
public import proofs.«01_k».proof.Proof.Row
public import Idealize.ShloMosaic.Lib.Pointwise
public import Idealize.ShloMosaic.Lib.StableHlo.Run

@[expose] public section

set_option maxRecDepth 16384

noncomputable section

namespace Cert.GfConv

open Cert.KernelIdeal Cert.KernelIdeal.Gen Idealize.ShloMosaic Idealize.ShloMosaic.TcCoe Idealize.ShloMosaic.StableHlo

variable (m : (ℓ : Loc nD τ sig) → Buf (Elt Ideal) ℓ)

/-- Two halves side by side. -/
def halves (a b : (⟨S256x128, .f32⟩ : BufTy).Contents (Elt Ideal)) : (⟨S256x256, .f32⟩ : BufTy).Contents (Elt Ideal) :=
  concatenate S256x256 1 [⟨S256x128, a⟩, ⟨S256x128, b⟩] concatenates_S256x128_S256x128_S256x256_d1

/-- The host's concatenation of two halves, by its name. -/
theorem halves_eq : (fun a b : (⟨S256x128, .f32⟩ : BufTy).Contents (Elt Ideal) =>
    (concatenate S256x256 1 [⟨S256x128, a⟩, ⟨S256x128, b⟩] concatenates_S256x128_S256x128_S256x256_d1 :
      (⟨S256x256, .f32⟩ : BufTy).Contents (Elt Ideal))) = halves := rfl

/-- The logarithms times the frequencies, modulo 255. -/
def stepsV : IVec S256x128 32 :=
  Host.remsi
    (muli (broadcastInDim S256x128 ![0, 1] bcast_S256x1_S256x128_0_1
        (broadcastInDim S256x1 ![0] bcast_S256_S256x1_0 fun i => lit0 (S256.rowMajor i)))
      (iotaInDim S256x128 32 1))
    (broadcastInDim S256x128 ![] bcast_S_S256x128 (constantI S_ 32 255#32))

/-- One step's angle. -/
def stepV : FVec Ideal S_ .f32 :=
  Host.divf (mulf (constant S_ .f32 0x41000000#32) (Host.atan (constant S_ .f32 0x3F800000#32))) (constant S_ .f32 0x437F0000#32)

/-- The angles. -/
def angleV : FVec Ideal S256x128 .f32 :=
  mulf (broadcastInDim S256x128 ![] bcast_S_S256x128 stepV) (sitofp .f32 stepsV)

/-- `v` off row zero, and zero on it. -/
def offZeroV (v : FVec Ideal S256x128 .f32) : FVec Ideal S256x128 .f32 :=
  select (cmpi .ne (iotaInDim S256x128 32 0) (broadcastInDim S256x128 ![] bcast_S_S256x128 (constantI S_ 32 0#32))) v
    (broadcastInDim S256x128 ![] bcast_S_S256x128 (id (constant S_ .f32 0x00000000#32)))

/-- The weights of the frequencies. -/
def weightV : FVec Ideal S256x128 .f32 :=
  select (cmpi .eq (iotaInDim S256x128 32 1) (broadcastInDim S256x128 ![] bcast_S_S256x128 (constantI S_ 32 0#32)))
    (broadcastInDim S256x128 ![] bcast_S_S256x128 (constant S_ .f32 0x3F800000#32))
    (broadcastInDim S256x128 ![] bcast_S_S256x128 (constant S_ .f32 0x40000000#32))

/-- The forward table. -/
def fwdV : FVec Ideal S256x256 .bf16 := truncf .bf16 (halves (offZeroV (Host.cos angleV)) (offZeroV (Host.sin angleV))) bitsLt_bf16_f32

/-- The inverse table. -/
def invV : FVec Ideal S256x256 .bf16 :=
  truncf .bf16 (transpose S256x256 [1, 0] (halves (mulf (offZeroV (Host.cos angleV)) weightV) (mulf (offZeroV (Host.sin angleV)) weightV))
    transposes_S256x256_S256x256_1_0) bitsLt_bf16_f32

/-- The launch finds the forward table in its third operand. -/
theorem V_fwd (c : Dev nD) : V m c main_call0_v30 = fwdV := by
  unfold Gen.V
  simp only [hostOps0]
  simp only [halves_eq]
  simp only [TRef.binary, TRef.nullary, TRef.unary, TRef.ternary, TRef.toBuf, TRef.ofBuf, cast_eq]
  after_results_simp
  rfl

/-- The launch finds the inverse table in its fourth operand. -/
theorem V_inv (c : Dev nD) : V m c main_call0_v31 = invV := by
  unfold Gen.V
  simp only [hostOps0]
  simp only [halves_eq]
  simp only [TRef.binary, TRef.nullary, TRef.unary, TRef.ternary, TRef.toBuf, TRef.ofBuf, cast_eq]
  after_results_simp
  rfl

/-- The word of 1. -/
theorem lit_one : Ideal.ofBits .f32 0x3F800000#32 = ((1 : ℝ) : EReal) := by
  simp [Ideal.ofBits, Ideal.ieee, -EReal.coe_mul]; norm_num

/-- The word of 2. -/
theorem lit_two : Ideal.ofBits .f32 0x40000000#32 = ((2 : ℝ) : EReal) := by
  simp [Ideal.ofBits, Ideal.ieee, -EReal.coe_mul]; norm_num

/-- The word of 8. -/
theorem lit_eight : Ideal.ofBits .f32 0x41000000#32 = ((8 : ℝ) : EReal) := by
  simp [Ideal.ofBits, Ideal.ieee, -EReal.coe_mul]; norm_num

/-- The word of 255. -/
theorem lit_255 : Ideal.ofBits .f32 0x437F0000#32 = ((255 : ℝ) : EReal) := by
  simp [Ideal.ofBits, Ideal.ieee, -EReal.coe_mul]; norm_num

/-- The word of 0. -/
theorem lit_zero : Ideal.ofBits .f32 0x00000000#32 = ((0 : ℝ) : EReal) := by
  simp [Ideal.ofBits, Ideal.ieee]

/-- One step's angle is a 255th of the circle. -/
theorem stepV_apply (i : S_.Idx) : stepV i = ((theta : ℝ) : EReal) := by
  show Ideal.div (Ideal.ofBits .f32 0x41000000#32 * Ideal.atan (Ideal.ofBits .f32 0x3F800000#32)) (Ideal.ofBits .f32 0x437F0000#32) = _
  rw [lit_eight, lit_one, lit_255, Ideal.atan_coe, Ideal.div_coe (by norm_num), ← EReal.coe_mul, ← EReal.coe_mul]
  congr 1
  rw [← eight_arctan]
  ring

/-- The number of steps at an entry. -/
theorem stepsV_apply (a : Fin 256) (k : Fin 128) : (stepsV (ix2 a k)).toInt = ((lg a * k.val % 255 : ℕ) : ℤ) := by
  have hp : (lit0 a * BitVec.ofNat 32 k.val).toNat = lg a * k.val := by
    rw [BitVec.toNat_mul, BitVec.toNat_ofNat, Nat.mod_eq_of_lt (show k.val < 2 ^ 32 by omega)]
    exact Nat.mod_eq_of_lt (lt_of_le_of_lt (Nat.mul_le_mul (power_lg a).1.le k.isLt.le) (by norm_num))
  have hlt : lg a * k.val ≤ 255 * 128 := Nat.mul_le_mul (power_lg a).1.le k.isLt.le
  have e : stepsV (ix2 a k) = IntOp.remsi .host (lit0 a * BitVec.ofNat 32 k.val) (BitVec.ofNat 32 255) := by
    pointwise [stepsV]
    have hr : S256.rowMajor (ix1 a) = a := Fin.ext (Shape.rowMajor_val_one _)
    rw [hr]
    rfl
  have hn := IntOp.toNat_remsi .host (x := lit0 a * BitVec.ofNat 32 k.val) (by rw [hp]; omega) 255 (by norm_num) (by norm_num)
  rw [e, BitVec.toInt_eq_toNat_of_lt (by rw [hn]; omega), hn, hp]

/-- The angle at an entry. -/
theorem angleV_apply (a : Fin 256) (k : Fin 128) :
    angleV (ix2 a k) = ((theta * ((lg a * k.val % 255 : ℕ) : ℝ) : ℝ) : EReal) := by
  show stepV _ * (((stepsV (ix2 a k)).toInt : ℝ) : EReal) = _
  rw [stepV_apply, stepsV_apply, ← EReal.coe_mul]
  norm_cast

/-- The word of a small nonzero number is not zero. -/
theorem ofNat_ne_zero (n : ℕ) (h : n < 2 ^ 32) (h0 : n ≠ 0) : BitVec.ofNat 32 n ≠ 0#32 := by
  intro e
  have := congrArg BitVec.toNat e
  rw [BitVec.toNat_ofNat, Nat.mod_eq_of_lt h] at this
  exact h0 this

/-- An entry off row zero. -/
theorem offZeroV_apply (v : FVec Ideal S256x128 .f32) (a : Fin 256) (k : Fin 128) :
    offZeroV v (ix2 a k) = if a.val = 0 then ((0 : ℝ) : EReal) else v (ix2 a k) := by
  show Scalar.select (BitVec.ofBool (BitVec.ofNat 32 a.val != 0#32)) (v (ix2 a k)) (Ideal.ofBits .f32 0x00000000#32) = _
  rw [lit_zero]
  by_cases h : a.val = 0
  · rw [if_pos h, h]; rfl
  · rw [if_neg h, bne_iff_ne.2 (ofNat_ne_zero a.val (by omega) h)]; rfl

/-- The cosine half. -/
theorem cos_apply (a : Fin 256) (k : Fin 128) : offZeroV (Host.cos angleV) (ix2 a k) = ((cosT a k.val : ℝ) : EReal) := by
  rw [offZeroV_apply]
  unfold cosT
  split
  · rfl
  · show Ideal.cos (angleV (ix2 a k)) = _
    rw [angleV_apply, Ideal.cos_coe, cos_mod]

/-- The sine half. -/
theorem sin_apply (a : Fin 256) (k : Fin 128) : offZeroV (Host.sin angleV) (ix2 a k) = ((sinT a k.val : ℝ) : EReal) := by
  rw [offZeroV_apply]
  unfold sinT
  split
  · rfl
  · show Ideal.sin (angleV (ix2 a k)) = _
    rw [angleV_apply, Ideal.sin_coe, sin_mod]

/-- The weight at an entry. -/
theorem weightV_apply (a : Fin 256) (k : Fin 128) : weightV (ix2 a k) = ((weight k.val : ℝ) : EReal) := by
  show Scalar.select (BitVec.ofBool (BitVec.ofNat 32 k.val == 0#32)) (Ideal.ofBits .f32 0x3F800000#32)
    (Ideal.ofBits .f32 0x40000000#32) = _
  rw [lit_one, lit_two]
  unfold weight
  by_cases h : k.val = 0
  · rw [if_pos h, h]; rfl
  · rw [if_neg h, beq_eq_false_iff_ne.2 (ofNat_ne_zero k.val (by omega) h)]; rfl

/-- A column of the left half. -/
theorem halves_left (u v : (⟨S256x128, .f32⟩ : BufTy).Contents (Elt Ideal)) (a : Fin 256) (k : Fin 128) :
    halves u v (ix2 a ⟨k.val, by omega⟩) = u (ix2 a k) := by
  pointwise [halves]

/-- A column of the right half. -/
theorem halves_right (u v : (⟨S256x128, .f32⟩ : BufTy).Contents (Elt Ideal)) (a : Fin 256) (k : Fin 128) :
    halves u v (ix2 a ⟨128 + k.val, by omega⟩) = v (ix2 a k) := by
  pointwise [halves]

/-- The forward table's cosines. -/
theorem fwdV_cos (a : Fin 256) (k : Fin 128) : fwdV (ix2 a ⟨k.val, by omega⟩) = ((cosT a k.val : ℝ) : EReal) :=
  (halves_left _ _ a k).trans (cos_apply a k)

/-- The forward table's sines. -/
theorem fwdV_sin (a : Fin 256) (k : Fin 128) : fwdV (ix2 a ⟨128 + k.val, by omega⟩) = ((sinT a k.val : ℝ) : EReal) :=
  (halves_right _ _ a k).trans (sin_apply a k)

/-- The inverse table's cosines. -/
theorem invV_cos (z : Fin 256) (k : Fin 128) :
    invV (ix2 ⟨k.val, by omega⟩ z) = ((cosT z k.val * weight k.val : ℝ) : EReal) := by
  have h : invV (ix2 ⟨k.val, by omega⟩ z)
      = halves (mulf (offZeroV (Host.cos angleV)) weightV) (mulf (offZeroV (Host.sin angleV)) weightV)
        (ix2 z ⟨k.val, by omega⟩) := by
    pointwise [invV]
  rw [h, halves_left]
  show offZeroV (Host.cos angleV) (ix2 z k) * weightV (ix2 z k) = _
  rw [cos_apply, weightV_apply, EReal.coe_mul]

/-- The inverse table's sines. -/
theorem invV_sin (z : Fin 256) (k : Fin 128) :
    invV (ix2 ⟨128 + k.val, by omega⟩ z) = ((sinT z k.val * weight k.val : ℝ) : EReal) := by
  have h : invV (ix2 ⟨128 + k.val, by omega⟩ z)
      = halves (mulf (offZeroV (Host.cos angleV)) weightV) (mulf (offZeroV (Host.sin angleV)) weightV)
        (ix2 z ⟨128 + k.val, by omega⟩) := by
    pointwise [invV]
  rw [h, halves_right]
  show offZeroV (Host.sin angleV) (ix2 z k) * weightV (ix2 z k) = _
  rw [sin_apply, weightV_apply, EReal.coe_mul]

end Cert.GfConv

end
-- ==== Proof.Block.lean ====
/-
  One block of the kernel over the extended reals: at a row of reals, the payloads' value at a column is the real that the row
  mathematics names, and minus infinity where plus infinity is among the first logits.
-/
module

public import proofs.«01_k».proof.Proof.Tables

@[expose] public section

set_option maxRecDepth 16384

noncomputable section

namespace Cert.GfConv

open Cert.KernelIdeal Cert.KernelIdeal.Gen Idealize.ShloMosaic

/-- A sum of reals, read among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The greater of two reals, read among the extended reals. -/
theorem coe_max (a b : ℝ) : max (a : EReal) (b : EReal) = ((max a b : ℝ) : EReal) :=
  (EReal.coe_strictMono.monotone.map_max).symm

/-- The logarithm of a positive real. -/
theorem log_pos {a : ℝ} (h : 0 < a) : Ideal.log (a : EReal) = ((Real.log a : ℝ) : EReal) := by
  rw [Ideal.log_coe, if_neg (not_le.2 h)]

/-- The word that bounds the logarithm's argument from below. -/
theorem lit_floor : Ideal.ofBits .f32 0x0DA24260#32 = ((floorLit : ℝ) : EReal) := by
  unfold floorLit
  simp [Ideal.ofBits, Ideal.ieee, -EReal.coe_mul]; norm_num

/-- The named constant is the logarithm of 255. -/
theorem named_log : Named.named (F := Ideal) κ "log_n" (φ := .f32) 0x40B15208#32 = ((Real.log 255 : ℝ) : EReal) :=
  IdealRules.named_const.ideal_named_scalar _ _ _ _ rfl

section
variable (P0 P1 : Vec Ideal S512x256 .f32) (P2 P3 : Vec Ideal S256x256 .bf16) (r : Fin 512)

/-- The exponentials, upper half: the first row. -/
theorem pay2_left (a : Fin 256) : k0_pay2 P0 P1 (ix2 ⟨r.val, by omega⟩ a) = Ideal.exp (P0 (ix2 r a)) := by
  pointwise [k0_pay2]

/-- The exponentials, lower half: the second row. -/
theorem pay2_right (a : Fin 256) : k0_pay2 P0 P1 (ix2 ⟨512 + r.val, by omega⟩ a) = Ideal.exp (P1 (ix2 r a)) := by
  pointwise [k0_pay2]

/-- The first product, upper half: the first row's exponentials against the table. -/
theorem pay3_left (j : Fin 256) :
    k0_pay3 P0 P1 P2 (ix2 ⟨r.val, by omega⟩ j) = ∑ a, Ideal.exp (P0 (ix2 r a)) * P2 (ix2 a j) := by
  pointwise [k0_pay3, k0_pay2]

/-- The first product, lower half: the second row's exponentials against the table. -/
theorem pay3_right (j : Fin 256) :
    k0_pay3 P0 P1 P2 (ix2 ⟨512 + r.val, by omega⟩ j) = ∑ a, Ideal.exp (P1 (ix2 r a)) * P2 (ix2 a j) := by
  pointwise [k0_pay3, k0_pay2]

end

/-- A row's total, as the kernel has it: the first frequency's cosine product and the zero's exponential. -/
theorem total (y : Fin 256 → ℝ) :
    (∑ a, Real.exp (y a) * cosT a (0 : Fin 128).val) + Real.exp (y 0) =
      ∑ a, Real.exp (y a) := by
  rw [Fin.val_zero, cos_zero fun a => Real.exp (y a), Fin.sum_univ_succ fun a => Real.exp (y a)]
  ring

/-- The exponential of an extended real is not negative. -/
theorem exp_nonneg (v : EReal) : 0 ≤ Ideal.exp v := by
  induction v using EReal.rec with
  | bot => exact le_refl _
  | top => exact le_top
  | coe u => exact EReal.coe_nonneg.2 (Real.exp_pos u).le

/-- A row that has plus infinity has an infinite total, as the kernel has it. -/
theorem total_top (E : Fin 256 → EReal) (h : ∃ a, E a = ⊤) :
    (∑ a, Ideal.exp (E a) * ((cosT a (0 : Fin 128).val : ℝ) : EReal)) + Ideal.exp (E 0) = ⊤ := by
  have one : ∀ a : Fin 256, a.val ≠ 0 → cosT a (0 : Fin 128).val = 1 := fun a ha => by
    simp [cosT, ha]
  have terms : ∀ a ∈ Finset.univ, 0 ≤ Ideal.exp (E a) * ((cosT a (0 : Fin 128).val : ℝ) : EReal) := fun a _ => by
    by_cases ha : a.val = 0
    · simp [cosT, ha]
    · rw [one a ha, EReal.coe_one, mul_one]
      exact exp_nonneg _
  obtain ⟨a, h⟩ := h
  by_cases ha : a.val = 0
  · obtain rfl : a = 0 := Fin.ext ha
    rw [h, Ideal.exp_top]
    exact EReal.add_top_of_ne_bot (fun e => absurd (e ▸ Finset.sum_nonneg terms) (by simp))
  · have big := Finset.single_le_sum terms (Finset.mem_univ a)
    rw [h, Ideal.exp_top, one a ha, EReal.coe_one, mul_one, top_le_iff] at big
    rw [big]
    exact EReal.top_add_of_ne_bot (fun e => absurd (e ▸ exp_nonneg (E 0)) (by simp))

/-- The block's value at a row whose first logits have plus infinity: minus infinity. -/
theorem block_top {P0 P1 : Vec Ideal S512x256 .f32} {r : Fin 512} {y : Fin 256 → ℝ} (hx : ∃ a, P0 (ix2 r a) = ⊤)
    (hy : ∀ a, P1 (ix2 r a) = ((y a : ℝ) : EReal)) (z : Fin 256) :
    k0_pay1 (k0_pay8 P0 P1 fwdV invV) (k0_pay9 P0 P1 fwdV) (ix2 r z) = ⊥ := by
  have left : k0_pay3 P0 P1 fwdV (ix2 ⟨r.val, by omega⟩ 0) + k0_pay2 P0 P1 (ix2 ⟨r.val, by omega⟩ 0) = ⊤ := by
    rw [pay3_left, pay2_left, ← total_top (fun a => P0 (ix2 r a)) hx]
    exact congrArg (· + _) (Finset.sum_congr rfl fun a _ => congrArg _ (fwdV_cos a 0))
  have right : k0_pay3 P0 P1 fwdV (ix2 ⟨512 + r.val, by omega⟩ 0) + k0_pay2 P0 P1 (ix2 ⟨512 + r.val, by omega⟩ 0)
      = ((∑ a, Real.exp (y a) : ℝ) : EReal) := by
    rw [pay3_right, pay2_right, ← total y, EReal.coe_add, ← coe_sum, hy 0, Ideal.exp_coe]
    refine congrArg (· + _) (Finset.sum_congr rfl fun a _ => ?_)
    rw [hy, Ideal.exp_coe, EReal.coe_mul]
    exact congrArg _ (fwdV_cos a 0)
  pointwise [k0_pay1, k0_pay8, k0_pay9, k0_pay6, k0_pay4, k0_pay5, k0_pay7]
  rw [left, right, EReal.top_mul_coe_of_pos (sum_exp_pos y), Ideal.log_top, named_log, EReal.top_add_coe,
    sub_eq_add_neg, EReal.neg_top, EReal.add_bot]

section
variable {P0 P1 : Vec Ideal S512x256 .f32} {r : Fin 512} {x y : Fin 256 → ℝ}
variable (hx : ∀ a, P0 (ix2 r a) = ((x a : ℝ) : EReal)) (hy : ∀ a, P1 (ix2 r a) = ((y a : ℝ) : EReal))
include hx hy

/-- The exponential of a real of the first row. -/
theorem exp_left (a : Fin 256) : k0_pay2 P0 P1 (ix2 ⟨r.val, by omega⟩ a) = ((Real.exp (x a) : ℝ) : EReal) := by
  rw [pay2_left, hx, Ideal.exp_coe]

/-- The exponential of a real of the second row. -/
theorem exp_right (a : Fin 256) : k0_pay2 P0 P1 (ix2 ⟨512 + r.val, by omega⟩ a) = ((Real.exp (y a) : ℝ) : EReal) := by
  rw [pay2_right, hy, Ideal.exp_coe]

/-- The first row's cosine sum at a frequency. -/
theorem cos_left (k : Fin 128) : k0_pay3 P0 P1 fwdV (ix2 ⟨r.val, by omega⟩ ⟨k.val, by omega⟩)
    = ((∑ a, Real.exp (x a) * cosT a k.val : ℝ) : EReal) := by
  rw [pay3_left, ← coe_sum]
  refine Finset.sum_congr rfl fun a _ => ?_
  rw [hx, Ideal.exp_coe, fwdV_cos, ← EReal.coe_mul]

/-- The first row's sine sum at a frequency. -/
theorem sin_left (k : Fin 128) : k0_pay3 P0 P1 fwdV (ix2 ⟨r.val, by omega⟩ ⟨128 + k.val, by omega⟩)
    = ((∑ a, Real.exp (x a) * sinT a k.val : ℝ) : EReal) := by
  rw [pay3_left, ← coe_sum]
  refine Finset.sum_congr rfl fun a _ => ?_
  rw [hx, Ideal.exp_coe, fwdV_sin, ← EReal.coe_mul]

/-- The second row's cosine sum at a frequency. -/
theorem cos_right (k : Fin 128) : k0_pay3 P0 P1 fwdV (ix2 ⟨512 + r.val, by omega⟩ ⟨k.val, by omega⟩)
    = ((∑ a, Real.exp (y a) * cosT a k.val : ℝ) : EReal) := by
  rw [pay3_right, ← coe_sum]
  refine Finset.sum_congr rfl fun a _ => ?_
  rw [hy, Ideal.exp_coe, fwdV_cos, ← EReal.coe_mul]

/-- The second row's sine sum at a frequency. -/
theorem sin_right (k : Fin 128) : k0_pay3 P0 P1 fwdV (ix2 ⟨512 + r.val, by omega⟩ ⟨128 + k.val, by omega⟩)
    = ((∑ a, Real.exp (y a) * sinT a k.val : ℝ) : EReal) := by
  rw [pay3_right, ← coe_sum]
  refine Finset.sum_congr rfl fun a _ => ?_
  rw [hy, Ideal.exp_coe, fwdV_sin, ← EReal.coe_mul]

/-- THE BLOCK'S VALUE at a row of reals. -/
theorem block_apply (hx' : ∀ a, -40 ≤ x a) (hy' : ∀ a, -40 ≤ y a) {t : Fin 255 → Fin 256 → Fin 256} (ht : Quotients t)
    (z : Fin 256) :
    k0_pay1 (k0_pay8 P0 P1 fwdV invV) (k0_pay9 P0 P1 fwdV) (ix2 r z) = ((logProb x y t z : ℝ) : EReal) := by
  have zl := cos_left hx hy 0
  have zr := cos_right hx hy 0
  have e0 : (⟨(0 : Fin 128).val, by decide⟩ : Fin 256) = 0 := rfl
  rw [e0] at zl zr
  obtain ⟨hpos, hval⟩ := kernel_logProb x y hx' hy' ht z
  pointwise [k0_pay1, k0_pay8, k0_pay9, k0_pay6, k0_pay4, k0_pay5, k0_pay7]
  simp only [exp_left hx hy, exp_right hx hy, cos_left hx hy, cos_right hx hy, sin_left hx hy, sin_right hx hy, zl, zr,
    invV_cos, invV_sin, lit_floor, lit_255, named_log, ← EReal.coe_mul, ← EReal.coe_add, ← EReal.coe_sub, coe_sum]
  have es := total x
  have et := total y
  have ek : (Scalar.select (IntOp.cmpi .eq (BitVec.ofNat 32 z.val) 0#32)
      (((((∑ a, Real.exp (x a) * cosT a (0 : Fin 128).val) * Real.exp (y 0) +
        Real.exp (x 0) * ((∑ a, Real.exp (y a) * cosT a (0 : Fin 128).val) + Real.exp (y 0))) * 255 : ℝ)) : EReal)
      ((spectrum (fun a => Real.exp (x a)) (fun a => Real.exp (y a)) z : ℝ) : EReal) : EReal)
      = ((kernelArg (fun a => Real.exp (x a)) (fun a => Real.exp (y a)) z : ℝ) : EReal) := by
    unfold kernelArg
    by_cases h : z.val = 0
    · rw [if_pos h, h]; rfl
    · have : IntOp.cmpi .eq (BitVec.ofNat 32 z.val) 0#32 = 0#1 := by
        show BitVec.ofBool (BitVec.ofNat 32 z.val == 0#32) = 0#1
        rw [beq_eq_false_iff_ne.2 (ofNat_ne_zero z.val (by omega) h)]; rfl
      rw [if_neg h, this]; rfl
  rw [es, et]
  rw [et] at ek
  refine Eq.trans (congrArg (fun v => Ideal.log (max v (floorLit : EReal)) - _) ek) ?_
  rw [coe_max, log_pos hpos, log_pos (mul_pos (sum_exp_pos x) (sum_exp_pos y)), ← EReal.coe_add, ← EReal.coe_sub, hval]

end

end Cert.GfConv

end
-- ==== Proof.Inputs.lean ====
/-
  What the precondition says: the table's words are bytes and list the field's quotients, the logits are not below −40, and
  the second row's are reals.
-/
module

public import proofs.«01_k».proof.Proof.Gen.Pre_gf256_inputs
public import proofs.«01_k».proof.Proof.Row
public import Idealize.ShloMosaic.Lib.ReduceAll
public import Idealize.ShloMosaic.Lib.Pointwise

@[expose] public section

set_option maxRecDepth 16384

noncomputable section

namespace Cert.GfConv

open Idealize.ShloMosaic Cert.Pre_gf256_inputs Cert.Pre_gf256_inputs.Gen

/-- A word at every entry of the table's shape. -/
def all (n : BitVec 32) : IVec S255x256 32 := broadcastInDim S255x256 ![] bcast_S_S255x256 (constantI S_ 32 n)

/-- `acc` at every entry, as the precondition writes it. -/
def accV (r a c : IVec S255x256 32) : IVec S255x256 32 :=
  xori r (fn_where (F := Ideal) (cmpi .ne (andi c (all 1#32)) (all 0#32)) a (constantI S_ 32 0#32))

/-- `dbl` at every entry, as the precondition writes it. -/
def dblV (a : IVec S255x256 32) : IVec S255x256 32 :=
  xori (andi (Host.shli a (all 1#32)) (all 255#32))
    (fn_where_0 (F := Ideal) (cmpi .ne (andi a (all 128#32)) (all 0#32)) (constantI S_ 32 27#32) (constantI S_ 32 0#32))

/-- The halved second factor at every entry. -/
def halfV (c : IVec S255x256 32) : IVec S255x256 32 := Host.shrsi c (all 1#32)

/-- `mulFrom` at every entry. -/
def mulV : ℕ → IVec S255x256 32 → IVec S255x256 32 → IVec S255x256 32 → IVec S255x256 32
  | 0, r, _, _ => r
  | n + 1, r, a, c => mulV n (accV r a c) (dblV a) (halfV c)

/-- The first factors: the row's index plus one. -/
def firstV : IVec S255x256 32 := addi (iotaInDim S255x256 32 0) (all 1#32)

/-- `accV` at an entry is `acc` of the entries. -/
theorem accV_apply (r a c : IVec S255x256 32) (i : S255x256.Idx) : accV r a c i = acc (r i) (a i) (c i) := by
  show r i ^^^ Scalar.select (BitVec.ofBool (c i &&& 1#32 != 0#32)) (a i) 0#32 = _
  unfold acc
  by_cases h : c i &&& 1#32 = 0#32
  · rw [if_neg (not_not.2 h), h]; rfl
  · rw [if_pos h, bne_iff_ne.2 h]; rfl

/-- `dblV` at an entry is `dbl` of the entry. -/
theorem dblV_apply (a : IVec S255x256 32) (i : S255x256.Idx) : dblV a i = dbl (a i) := by
  show ((a i <<< (1#32 : BitVec 32)) &&& 255#32) ^^^ Scalar.select (BitVec.ofBool (a i &&& 128#32 != 0#32)) 27#32 0#32 = _
  unfold dbl
  by_cases h : a i &&& 128#32 = 0#32
  · rw [if_neg (not_not.2 h), h]; rfl
  · rw [if_pos h, bne_iff_ne.2 h]; rfl

/-- `halfV` at an entry is the entry shifted right by one. -/
theorem halfV_apply (c : IVec S255x256 32) (i : S255x256.Idx) : halfV c i = (c i).sshiftRight 1 := rfl

/-- `mulV` at an entry is `mulFrom` of the entries. -/
theorem mulV_apply (n : ℕ) (r a c : IVec S255x256 32) (i : S255x256.Idx) :
    mulV n r a c i = mulFrom n (r i) (a i) (c i) := by
  induction n generalizing r a c with
  | zero => rfl
  | succ n ih => rw [mulV, ih, accV_apply, dblV_apply, halfV_apply]; rfl

/-- The precondition, its eight steps named. -/
theorem fn_eq (x y : FVec Ideal S1024x256 .f32) (lut : IVec S255x256 32) :
    fn (F := Ideal) x y lut
      = fn_part10 (F := Ideal) x y lut (iotaInDim S255x256 32 1) (mulV 8 (all 0#32) firstV lut) (constantI S_ 32 0#32) :=
  rfl

/-- The byte that the table holds at an entry. -/
def quot (lut : IVec S255x256 32) (i : Fin 255) (b : Fin 256) : Fin 256 :=
  ⟨(lut (ix2 i b)).toNat % 256, Nat.mod_lt _ (by decide)⟩

/-- What the precondition gives, as propositions. -/
structure Inputs (x y : FVec Ideal S1024x256 .f32) (lut : IVec S255x256 32) : Prop where
  /-- The table's words are bytes. -/
  word : ∀ i b, lut (ix2 i b) = BitVec.ofNat 32 (quot lut i b).val
  /-- The bytes are the quotients. -/
  quotients : Quotients (quot lut)
  /-- The first row's logits are not below −40; plus infinity may be among them. -/
  left : ∀ r a, ((-40 : ℝ) : EReal) ≤ x (ix2 r a)
  /-- The second row's logits are reals not below −40. -/
  right : ∀ r a, ∃ v : ℝ, y (ix2 r a) = (v : EReal) ∧ -40 ≤ v

/-- The word that bounds the logits from below is −40. -/
theorem ofBits_low : Ideal.ofBits .f32 0xC2200000#32 = ((-40 : ℝ) : EReal) := by
  simp [Ideal.ofBits, Ideal.ieee, -EReal.coe_mul, -EReal.coe_neg]; norm_num

/-- The word that bounds the logits from above is plus infinity. -/
theorem ofBits_high : Ideal.ofBits .f32 0x7F800000#32 = ⊤ := by
  simp [Ideal.ofBits, Ideal.ieee]

/-- A value that passes the lower comparison is not below −40. -/
theorem low_of_bound (v : EReal)
    (h : FloatOps.cmpf (F := Ideal) (φ := .f32) .oge v (Ideal.ofBits .f32 0xC2200000#32) = 1#1) :
    ((-40 : ℝ) : EReal) ≤ v := by
  rw [ofBits_low] at h
  by_contra hn
  have : Ideal.cmp .oge v ((-40 : ℝ) : EReal) = 0#1 := by
    show BitVec.ofBool (decide (((-40 : ℝ) : EReal) ≤ v)) = 0#1
    rw [decide_eq_false hn]; rfl
  exact absurd (this.symm.trans h) (by decide)

/-- A value that passes the two comparisons is a real not below −40. -/
theorem real_of_bounds (v : EReal)
    (h : IntOp.andi (FloatOps.cmpf (F := Ideal) (φ := .f32) .oge v (Ideal.ofBits .f32 0xC2200000#32))
      (FloatOps.cmpf (F := Ideal) (φ := .f32) .olt v (Ideal.ofBits .f32 0x7F800000#32)) = 1#1) :
    ∃ w : ℝ, v = (w : EReal) ∧ -40 ≤ w := by
  obtain ⟨h1, h2⟩ := IntOp.andi_eq_one.1 h
  rw [ofBits_high] at h2
  have lo := low_of_bound v h1
  have hi : v < ⊤ := by
    by_contra hn
    have : Ideal.cmp .olt v ⊤ = 0#1 := by simp [Ideal.cmp, hn]
    exact absurd (this.symm.trans h2) (by decide)
  induction v using EReal.rec with
  | bot => exact absurd lo (by simp)
  | top => exact absurd hi (by simp)
  | coe w => exact ⟨w, rfl, EReal.coe_le_coe_iff.1 lo⟩

/-- The precondition gives those propositions. -/
theorem inputs_of_pre (x y : FVec Ideal S1024x256 .f32) (lut : IVec S255x256 32)
    (h : fn (F := Ideal) x y lut = fun _ => 1#1) : Inputs x y lut := by
  rw [fn_eq] at h
  have h0 := congrFun h (fun k => k.elim0)
  obtain ⟨ht, hl⟩ := IntOp.andi_eq_one.1 h0
  obtain ⟨hx, hy⟩ := IntOp.andi_eq_one.1 hl
  haveI : Subsingleton S_.Idx := ⟨fun a b => funext fun k => k.elim0⟩
  have ht' := Host.reduce_andi_all _ _ _ _ _ ht
  have hx' := Host.reduce_andi_all _ _ _ _ _ hx
  have hy' := Host.reduce_andi_all _ _ _ _ _ hy
  have e : ∀ i b, lut (ix2 i b) = BitVec.ofNat 32 (quot lut i b).val := by
    intro i b
    obtain ⟨h1, -⟩ := IntOp.andi_eq_one.1 (ht' (ix2 i b))
    obtain ⟨h2, h3⟩ := IntOp.andi_eq_one.1 h1
    have lo := IntOp.cmpi_sge.1 h2
    have hi := IntOp.cmpi_slt.1 h3
    have lo' : (0 : Int) ≤ (lut (ix2 i b)).toInt := lo
    have hi' : (lut (ix2 i b)).toInt < 256 := hi
    have hn : (lut (ix2 i b)).toNat < 256 := by
      rw [BitVec.toInt_eq_toNat_cond] at lo' hi'
      have := (lut (ix2 i b)).isLt
      split at lo' <;> omega
    apply BitVec.eq_of_toNat_eq
    rw [BitVec.toNat_ofNat]
    show _ = (lut (ix2 i b)).toNat % 256 % 2 ^ 32
    omega
  refine ⟨e, fun i b => ?_, fun r a => low_of_bound _ (hx' (ix2 r a)), fun r a => real_of_bounds _ (hy' (ix2 r a))⟩
  obtain ⟨-, h4⟩ := IntOp.andi_eq_one.1 (ht' (ix2 i b))
  have h5 := IntOp.cmpi_eq.1 h4
  rw [mulV_apply, e] at h5
  have e1 : firstV (ix2 i b) = BitVec.ofNat 32 (i.val + 1) := by
    show BitVec.ofNat 32 i.val + 1#32 = _
    rw [← BitVec.ofNat_add]
  rw [e1] at h5
  exact h5

end Cert.GfConv

end
-- ==== Proof.Final.lean ====
/-
  The kernel's run over the extended reals: under the precondition its result array ends at the logarithms of the
  probabilities, the arguments unchanged.
-/
module

public import proofs.«01_k».proof.Proof.Block
public import proofs.«01_k».proof.Proof.Inputs
public import Idealize.ShloMosaic.Lib.Pipeline.Value
public import Idealize.ShloMosaic.Lib.Quiescent

@[expose] public section

set_option maxRecDepth 16384

noncomputable section

namespace Cert.GfConv

open Cert.KernelIdeal Cert.KernelIdeal.Gen Idealize.ShloMosaic Idealize.ShloMosaic.TcCoe Idealize.SL.Sem
open Idealize.ShloMosaic.Pipeline (Dat)

/-- The array that both programs leave: at `(r, z)` the logarithm of the probability of `z` from row `r` of the logits; minus
    infinity along a row whose first logits have plus infinity. -/
def result (x y : FVec Ideal S1024x256 .f32) (lut : IVec S255x256 32) : FVec Ideal S1024x256 .f32 := fun i =>
  open Classical in
  if ∃ a, x (ix2 (i 0) a) = ⊤ then ⊥ else
  ((logProb (fun a => (x (ix2 (i 0) a)).toReal) (fun a => (y (ix2 (i 0) a)).toReal) (quot lut) (i 1) : ℝ) : EReal)

/-- A row not below −40 without plus infinity is a row of reals not below −40. -/
theorem row_real {v : EReal} (lo : ((-40 : ℝ) : EReal) ≤ v) (hi : v ≠ ⊤) : v = ((v.toReal : ℝ) : EReal) ∧ -40 ≤ v.toReal := by
  have e : v = ((v.toReal : ℝ) : EReal) :=
    (EReal.coe_toReal hi fun h => absurd (h ▸ lo) (by simp)).symm
  exact ⟨e, EReal.coe_le_coe_iff.1 (e ▸ lo)⟩

variable (m : (ℓ : Loc nD τ sig) → Buf (Elt Ideal) ℓ) (ρ : Dev nD → PrngReg)

/-- The result from device `c`'s arguments. -/
abbrev resultOf (c : Dev nD) : Buf (Elt Ideal) ((c : Thread nD τ).loc main_v0) :=
  result (m ((c : Thread nD τ).loc main_arg0)) (m ((c : Thread nD τ).loc main_arg1)) (m ((c : Thread nD τ).loc main_arg2))

/-- The two zero offsets are the origin. -/
theorem origin : (![0, 0] : Fin 2 → Nat) = fun _ => 0 := funext fun a => by fin_cases a <;> rfl

/-- The blocks' positions: the three windows over the rows are at row 512 t, the tables' windows at the origin. -/
theorem positions : ∀ t : Fin cfg0.N,
    (win0_0.index t 0 * 512 = t.val * 512 ∧ win0_0.index t 1 = 0)
    ∧ (win0_1.index t 0 * 512 = t.val * 512 ∧ win0_1.index t 1 = 0)
    ∧ (win0_4.index t 0 * 512 = t.val * 512 ∧ win0_4.index t 1 = 0)
    ∧ (win0_2.index t 0 = 0 ∧ win0_2.index t 1 = 0) ∧ (win0_3.index t 0 = 0 ∧ win0_3.index t 1 = 0) := by
  decide +kernel

/-- The first argument's block at `t`, read at an index. -/
theorem block_left (c : Dev nD) (t : Fin cfg0.N) (r : Fin 512) (a : Fin 256) (R : Fin 1024) (hR : R.val = t.val * 512 + r.val) :
    iblk m c 0 t (ix2 r a) = m ((c : Thread nD τ).loc main_arg0) (ix2 R a) := by
  show V m c main_arg0 ((win0_0.rect t).emb (ix2 r a)) = _
  rw [V_main_arg0]
  congr 1
  obtain ⟨⟨h0, h1⟩, -⟩ := positions t
  funext k
  apply Fin.ext
  match k with
  | ⟨0, _⟩ => exact (win0_0.rect_emb_val t (ix2 r a) 0 rfl).trans ((congrArg (· + r.val) h0).trans hR.symm)
  | ⟨1, _⟩ => exact win0_0.rect_emb_val_of_index_zero t 1 h1 (ix2 r a)

/-- The second argument's block at `t`, read at an index. -/
theorem block_right (c : Dev nD) (t : Fin cfg0.N) (r : Fin 512) (a : Fin 256) (R : Fin 1024) (hR : R.val = t.val * 512 + r.val) :
    iblk m c 1 t (ix2 r a) = m ((c : Thread nD τ).loc main_arg1) (ix2 R a) := by
  show V m c main_arg1 ((win0_1.rect t).emb (ix2 r a)) = _
  rw [V_main_arg1]
  congr 1
  obtain ⟨-, ⟨h0, h1⟩, -⟩ := positions t
  funext k
  apply Fin.ext
  match k with
  | ⟨0, _⟩ => exact (win0_1.rect_emb_val t (ix2 r a) 0 rfl).trans ((congrArg (· + r.val) h0).trans hR.symm)
  | ⟨1, _⟩ => exact win0_1.rect_emb_val_of_index_zero t 1 h1 (ix2 r a)

/-- The forward table's block is the whole table, at every grid point. -/
theorem block_fwd (c : Dev nD) (t : Fin cfg0.N) : iblk m c 2 t = fwdV := by
  funext i
  show V m c main_call0_v30 ((win0_2.rect t).emb i) = _
  rw [V_fwd]
  obtain ⟨-, -, -, ⟨h0, h1⟩, -⟩ := positions t
  congr 1
  funext k
  apply Fin.ext
  match k with
  | ⟨0, _⟩ => exact win0_2.rect_emb_val_of_index_zero t 0 h0 i
  | ⟨1, _⟩ => exact win0_2.rect_emb_val_of_index_zero t 1 h1 i

/-- The inverse table's block is the whole table, at every grid point. -/
theorem block_inv (c : Dev nD) (t : Fin cfg0.N) : iblk m c 3 t = invV := by
  funext i
  show V m c main_call0_v31 ((win0_3.rect t).emb i) = _
  rw [V_inv]
  obtain ⟨-, -, -, -, ⟨h0, h1⟩⟩ := positions t
  congr 1
  funext k
  apply Fin.ext
  match k with
  | ⟨0, _⟩ => exact win0_3.rect_emb_val_of_index_zero t 0 h0 i
  | ⟨1, _⟩ => exact win0_3.rect_emb_val_of_index_zero t 1 h1 i

/-- The result's block at `t`, read at an index: the logarithm of a probability, from the row of the array it is in. -/
theorem block_result (x y : FVec Ideal S1024x256 .f32) (lut : IVec S255x256 32) (t : Fin cfg0.N) (r : Fin 512) (z : Fin 256)
    (R : Fin 1024) (hR : R.val = t.val * 512 + r.val) :
    result x y lut ((win0_4.rect t).emb (ix2 r z)) = result x y lut (ix2 R z) := by
  congr 1
  obtain ⟨-, -, ⟨h0, h1⟩, -⟩ := positions t
  funext k
  apply Fin.ext
  match k with
  | ⟨0, _⟩ => exact (win0_4.rect_emb_val t (ix2 r z) 0 rfl).trans ((congrArg (· + r.val) h0).trans hR.symm)
  | ⟨1, _⟩ => exact win0_4.rect_emb_val_of_index_zero t 1 h1 (ix2 r z)

/-- The precondition as facts of device `c`'s arguments. -/
abbrev InputsOf (c : Dev nD) : Prop :=
  Inputs (m ((c : Thread nD τ).loc main_arg0)) (m ((c : Thread nD τ).loc main_arg1)) (m ((c : Thread nD τ).loc main_arg2))

/-- What grid point `t` writes back is its block of the result. -/
theorem flushed_eq (c : Dev nD) (h : InputsOf m c) (t : Fin cfg0.N) :
    (dats m 0 c).flushed 4 t = ((cfg0.win 4).blk t).view.read (Elt Ideal) (resultOf m c) := by
  have hN : t.val < 2 := N_0 ▸ t.isLt
  show (cfg0.win 4).cut (grid0.coords t) ((dats m 0 c).after 4 t) = _
  rw [after0_4]
  unfold out0_4
  rw [View.canon_unit_zero origin, View.ld_unit_zero (S := S512x256) origin, View.ld_unit_zero (S := S512x256) origin,
    View.ld_unit_zero (S := S256x256) origin, View.ld_unit_zero (S := S256x256) origin, block_fwd, block_inv]
  refine funext fun (j : S512x256.Idx) => ?_
  obtain ⟨r, z, rfl⟩ : ∃ r z, j = ix2 r z := ⟨j 0, j 1, funext fun k => by fin_cases k <;> rfl⟩
  let R : Fin 1024 := ⟨t.val * 512 + r.val, by omega⟩
  refine Eq.trans ?_ (block_result _ _ _ t r z R rfl).symm
  show k0_pay1 _ _ (ix2 r z) = _
  have second : ∀ a, iblk m c 1 t (ix2 r a) = (((m ((c : Thread nD τ).loc main_arg1) (ix2 R a)).toReal : ℝ) : EReal) := by
    intro a
    rw [block_right m c t r a R rfl]
    obtain ⟨v, hv, -⟩ := h.right R a
    rw [hv, EReal.toReal_coe]
  by_cases top : ∃ a, m ((c : Thread nD τ).loc main_arg0) (ix2 R a) = (⊤ : EReal)
  · refine Eq.trans ?_ (if_pos top).symm
    obtain ⟨a, ha⟩ := top
    exact block_top ⟨a, (block_left m c t r a R rfl).trans ha⟩ second z
  have first := fun a => row_real (h.left R a) fun e => top ⟨a, e⟩
  refine Eq.trans ?_ (if_neg top).symm
  refine block_apply (x := fun a => (m ((c : Thread nD τ).loc main_arg0) (ix2 R a)).toReal)
    (y := fun a => (m ((c : Thread nD τ).loc main_arg1) (ix2 R a)).toReal)
    (fun a => (block_left m c t r a R rfl).trans (first a).1) second (fun a => (first a).2) (fun a => ?_) h.quotients z
  · obtain ⟨v, hv, hl⟩ := h.right R a
    rwa [hv, EReal.toReal_coe]

/-- The result's blocks: 512 rows and every column. -/
theorem sizes : ∀ t : Fin cfg0.N, win0_4.size 0 = 512 ∧ win0_4.xsize (grid0.coords t) 0 = 512
    ∧ win0_4.xsize (grid0.coords t) 1 = 256 := by
  decide +kernel

/-- An element of the result is in the block of the grid point that has its row. -/
theorem mem_block (t : Fin cfg0.N) (i : S1024x256.Idx) (h : (i 0).val / 512 = t.val) :
    i ∈ ((cfg0.win 4).blk t).view.set := by
  show i ∈ ((View.whole main_v0).slice (win0_4.rect t)).set
  rw [View.set_slice_whole, Rect.mem_set_unit]
  obtain ⟨-, -, ⟨h0, h1⟩, -⟩ := positions t
  obtain ⟨-, s0, s1⟩ := sizes t
  intro k
  match k with
  | ⟨0, _⟩ =>
    show win0_4.index t 0 * 512 ≤ (i 0).val ∧ (i 0).val < win0_4.index t 0 * 512 + win0_4.xsize (grid0.coords t) 0
    rw [h0, s0]
    omega
  | ⟨1, _⟩ =>
    show win0_4.index t 1 * 256 ≤ (i 1).val ∧ (i 1).val < win0_4.index t 1 * 256 + win0_4.xsize (grid0.coords t) 1
    have := (i 1).isLt
    rw [h1, s1]
    exact ⟨by omega, by simpa using this⟩

/-- The result array, after the grid. -/
theorem final (c : Dev nD) (h : InputsOf m c) : (dats m 0 c).arrAt 4 cfg0.N = resultOf m c := by
  refine (dats m 0 c).arrAt_eq_of_cover 4 (resultOf m c) (fun t _ => flushed_eq m c h t) fun (i : S1024x256.Idx) => ?_
  have hi : (i 0).val < 1024 := (i 0).isLt
  have hN : cfg0.N = 2 := N_0
  refine ⟨⟨(i 0).val / 512, by omega⟩, flush0_4 _, mem_block _ i rfl⟩

/-- The run: on every device the result array is the logarithms of the probabilities and the arguments are kept. -/
theorem run (h : ∀ c, InputsOf m c) :
    θ_run defs (onTc (τ := τ) (main (F := Ideal))) ⟨m, fun _ => 0, ρ⟩ fun r => ∀ c : Dev nD,
      r.2.mem ((c : Thread nD τ).loc main_v0) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c =>
    ⟨((hr c).1 4).trans (final m c (h c)),
     ((hr c).1 0).trans (((dats m 0 c).arrAt_in 0 rfl _).trans ((A_eq m c 0).trans (V_main_arg0 m c))),
     ((hr c).1 1).trans (((dats m 0 c).arrAt_in 1 rfl _).trans ((A_eq m c 1).trans (V_main_arg1 m c))),
     ((hr c).2 main_arg2 (Pipeline.mem_restRefs_of main_arg2 (by decide) (by decide))).trans (V_main_arg2 m c)⟩)
    (run_main m ρ)

end Cert.GfConv

end
-- ==== Proof.Reference.lean ====
/-
  The reference over the extended reals: log-softmax of the two rows, the table's pairs, the logarithm of the sum, and the
  zero product's extra term; at the precondition's inputs each element is the logarithm of the product's probability, or minus
  infinity where plus infinity is among the first logits.
-/
module

public import proofs.«01_k».proof.Proof.Final
public import proofs.«01_k».proof.Proof.Gen.ReferenceIdeal.Run
public import Idealize.ShloMosaic.Lib.Pointwise

@[expose] public section

set_option maxRecDepth 16384

noncomputable section

namespace Cert.GfConv.Reference

open Cert.ReferenceIdeal Cert.ReferenceIdeal.Gen Idealize.ShloMosaic Idealize.ShloMosaic.TcCoe

/-- The greatest element of each row. -/
def rowMax (x : FVec Ideal S1024x256 .f32) : FVec Ideal S1024 .f32 :=
  maximumf (broadcastInDim S1024 ![] bcast_S_S1024 (constant S_ .f32 0xFF800000#32)) (Host.reduce FloatOps.maximumf x
      (constant S_ .f32 0xFF800000#32) reducesTo_S1024x256_S1024_d1 h_S_)

/-- Each row less its greatest element. -/
def centred (x : FVec Ideal S1024x256 .f32) : FVec Ideal S1024x256 .f32 :=
  subf x (broadcastInDim S1024x256 ![0, 1] bcast_S1024x1_S1024x256_0_1 (broadcastInDim S1024x1 ![0]
      bcast_S1024_S1024x1_0 (rowMax x)))

/-- Each row less the logarithm of the sum of its exponentials, computed from the row less its greatest element. -/
def logSoftmax (x : FVec Ideal S1024x256 .f32) : FVec Ideal S1024x256 .f32 :=
  subf (centred x) (broadcastInDim S1024x256 ![0, 1] bcast_S1024x1_S1024x256_0_1 (Host.log (broadcastInDim S1024x1
      ![0] bcast_S1024_S1024x1_0 (Host.reduceAdd (Host.exp (centred x)) (constant S_ .f32 0x00000000#32)
      reducesTo_S1024x256_S1024_d1 h_S_))))

/-- The quotient table as column numbers: an entry below zero counts from the end. -/
def columns (lut : IVec S255x256 32) : IVec S255x256x1 32 :=
  broadcastInDim S255x256x1 ![0, 1] bcast_S255x256_S255x256x1_0_1 (select (cmpi .slt lut (broadcastInDim S255x256 ![]
      bcast_S_S255x256 (constantI S_ 32 0#32))) (addi lut (broadcastInDim S255x256 ![] bcast_S_S255x256 (constantI S_
      32 256#32))) lut)

/-- The logarithm of the probability of each pair whose product is `z`: the first factor from `1` to `255`, the second the table's. -/
def pairs (p q : FVec Ideal S1024x256 .f32) (k : IVec S255x256x1 32) : FVec Ideal S1024x255x256 .f32 :=
  addf (broadcastInDim S1024x255x256 ![0, 1, 2] bcast_S1024x255x1_S1024x255x256_0_1_2 (broadcastInDim S1024x255x1
      ![0, 1] bcast_S1024x255_S1024x255x1_0_1 (extractStridedSlice S1024x255 ![0, 1] p slices_S1024x256_S1024x255_0_1)))
    (Host.gather gather_S1024x256_S255x256x1_S1024x255x256_0_1_n_n_1_2_10241 q k)

/-- The greatest over the pairs. -/
def pairsMax (w : FVec Ideal S1024x255x256 .f32) : FVec Ideal S1024x256 .f32 :=
  Host.reduce FloatOps.maximumf w (constant S_ .f32 0xFF800000#32) reducesTo_S1024x255x256_S1024x256_d1 h_S_

/-- The logarithm of the sum over the pairs. -/
def pairsSum (w : FVec Ideal S1024x255x256 .f32) : FVec Ideal S1024x256 .f32 :=
  addf (Host.log (Host.reduceAdd (Host.exp (subf w (broadcastInDim S1024x255x256 ![0, 1, 2]
      bcast_S1024x1x256_S1024x255x256_0_1_2 (broadcastInDim S1024x1x256 ![0, 2] bcast_S1024x256_S1024x1x256_0_2
      (pairsMax w))))) (constant S_ .f32 0x00000000#32) reducesTo_S1024x255x256_S1024x256_d1 h_S_)) (pairsMax w)

/-- The two logarithms that the probability of a zero product is the sum of: second factor zero, first factor zero. -/
def stacked (s p : FVec Ideal S1024x256 .f32) : FVec Ideal S2x1024x1 .f32 :=
  concatenate S2x1024x1 0 [⟨S1x1024x1, broadcastInDim S1x1024x1 ![1, 2] bcast_S1024x1_S1x1024x1_1_2
      (extractStridedSlice S1024x1 ![0, 0] s slices_S1024x256_S1024x1_0_0)⟩, ⟨S1x1024x1, broadcastInDim S1x1024x1
      ![1, 2] bcast_S1024x1_S1x1024x1_1_2 (extractStridedSlice S1024x1 ![0, 0] p slices_S1024x256_S1024x1_0_0)⟩]
      concatenates_S1x1024x1_S1x1024x1_S2x1024x1_d0

/-- The greater of the two. -/
def stackedMax (w : FVec Ideal S2x1024x1 .f32) : FVec Ideal S1024x1 .f32 :=
  Host.reduce FloatOps.maximumf w (constant S_ .f32 0xFF800000#32) reducesTo_S2x1024x1_S1024x1_d0 h_S_

/-- The logarithm of their sum. -/
def stackedSum (w : FVec Ideal S2x1024x1 .f32) : FVec Ideal S1024x1 .f32 :=
  addf (Host.log (Host.reduceAdd (Host.exp (subf w (broadcastInDim S2x1024x1 ![0, 1, 2]
      bcast_S1x1024x1_S2x1024x1_0_1_2 (broadcastInDim S1x1024x1 ![1, 2] bcast_S1024x1_S1x1024x1_1_2 (stackedMax
      w))))) (constant S_ .f32 0x00000000#32) reducesTo_S2x1024x1_S1024x1_d0 h_S_)) (stackedMax w)

/-- The reference's result: column zero from the two logarithms, the other columns from the pairs. -/
def whole (s p : FVec Ideal S1024x256 .f32) : FVec Ideal S1024x256 .f32 :=
  concatenate S1024x256 1 [⟨S1024x1, stackedSum (stacked s p)⟩, ⟨S1024x255, extractStridedSlice S1024x255 ![0, 1] s
      slices_S1024x256_S1024x255_0_1⟩] concatenates_S1024x1_S1024x255_S1024x256_d1

/-- The reference as a function of its three arguments. -/
def refTerm (x y : FVec Ideal S1024x256 .f32) (lut : IVec S255x256 32) : FVec Ideal S1024x256 .f32 :=
  whole (pairsSum (pairs (logSoftmax x) (logSoftmax y) (columns lut))) (logSoftmax x)

/-- The reference's run ends at that function of the arguments. -/
theorem res_eq (m : (ℓ : Loc nD τ sig) → Buf (Elt Ideal) ℓ) (c : Dev nD) :
    Cert.ReferenceIdeal.Value.res_main_v35 m c = refTerm (m ((c : Thread nD τ).loc main_arg0)) (m ((c : Thread nD
      τ).loc main_arg1)) (m ((c : Thread nD τ).loc main_arg2)) := rfl

/-- The reference's gather: result `(r, i, z)` is the operand at row `r` and the column that the start index names, clamped. -/
theorem gather_at (x : FVec Ideal S1024x256 .f32) (k : IVec S255x256x1 32) (r : Fin 1024) (i : Fin 255) (z : Fin 256) :
    Host.gather gather_S1024x256_S255x256x1_S1024x255x256_0_1_n_n_1_2_10241 x k (ix3 r i z)
      = x (ix2 r ⟨min (k (ix3 i z 0)).toInt.toNat 255, by omega⟩) := by
  let d := gather_S1024x256_S255x256x1_S1024x255x256_0_1_n_n_1_2_10241
  have row : d.start (ix3 r i z) k (0 : Fin 2) + d.batchCoord (ix3 r i z) (0 : Fin 2) + d.offCoord (ix3 r i z) (0 : Fin 2)
      = r.val := by
    rw [GatherDims.batchCoord_eq_zero _ _ _ List.not_mem_nil]
    unfold GatherDims.start GatherDims.offCoord
    rw [dif_neg (show (0 : Fin 2) ∉ d.startIndexMap from by decide), dif_pos (show (0 : Fin 2) ∈ d.sKept from by decide)]
    show 0 + 0 + r.val = _
    omega
  have col : d.start (ix3 r i z) k (1 : Fin 2) + d.batchCoord (ix3 r i z) (1 : Fin 2) + d.offCoord (ix3 r i z) (1 : Fin 2)
      = min (k (ix3 i z 0)).toInt.toNat 255 := by
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ d.startIndexMap from List.mem_singleton.mpr rfl)]
    have start : d.siIdx (ix3 r i z) ⟨List.idxOf (1 : Fin 2) d.startIndexMap,
        List.idxOf_lt_length_iff.2 (List.mem_singleton.mpr rfl)⟩ = ix3 i z 0 := by
      funext b
      match b with
      | ⟨0, _⟩ => rfl
      | ⟨1, _⟩ => rfl
      | ⟨2, _⟩ => rfl
    rw [start]
    rfl
  unfold Host.gather
  congr 1
  funext a
  match a with
  | ⟨0, _⟩ => exact Fin.ext row
  | ⟨1, _⟩ => exact Fin.ext col

/-- The word that the greatest element starts from. -/
theorem lit_bot : Ideal.ofBits .f32 0xFF800000#32 = ⊥ := by
  simp [Ideal.ofBits, Ideal.ieee]

/-- The greatest of finitely many reals, started from minus infinity, is a real. -/
theorem fold_max_real {n : Nat} (w : Fin (n + 1) → ℝ) :
    ∃ M : ℝ, Finset.univ.fold max (⊥ : EReal) (fun k => ((w k : ℝ) : EReal)) = (M : EReal) := by
  have lo : Finset.univ.fold max (⊥ : EReal) (fun k => ((w k : ℝ) : EReal)) ≠ ⊥ := by
    have h : ((w 0 : ℝ) : EReal) ≤ Finset.univ.fold max (⊥ : EReal) (fun k => ((w k : ℝ) : EReal)) :=
      (Finset.le_fold_max _).2 (Or.inr ⟨0, Finset.mem_univ _, le_refl _⟩)
    exact fun e => EReal.coe_ne_bot _ (le_bot_iff.1 (e ▸ h))
  have hi : Finset.univ.fold max (⊥ : EReal) (fun k => ((w k : ℝ) : EReal)) ≠ ⊤ :=
    ((Finset.fold_max_lt _).2 ⟨bot_lt_top, fun k _ => EReal.coe_lt_top _⟩).ne
  exact ⟨_, (EReal.coe_toReal hi lo).symm⟩

/-- The logarithm of a sum of exponentials of reals less `M`, over the extended reals. -/
theorem log_sum {n : Nat} (w : Fin (n + 1) → ℝ) (M : ℝ) :
    Ideal.log (∑ k, Ideal.exp (((w k : ℝ) : EReal) - (M : EReal))) = ((Real.log (∑ k, Real.exp (w k)) - M : ℝ) : EReal) := by
  have e : ∀ k, Ideal.exp (((w k : ℝ) : EReal) - (M : EReal)) = ((Real.exp (w k) * Real.exp (-M) : ℝ) : EReal) := fun k => by
    rw [← EReal.coe_sub, Ideal.exp_coe, sub_eq_add_neg, Real.exp_add]
  have pos : 0 < ∑ k, Real.exp (w k) := Finset.sum_pos (fun k _ => Real.exp_pos _) Finset.univ_nonempty
  rw [Finset.sum_congr rfl fun k _ => e k, coe_sum, ← Finset.sum_mul, log_pos (mul_pos pos (Real.exp_pos _)),
    Real.log_mul pos.ne' (Real.exp_pos _).ne', Real.log_exp, sub_eq_add_neg]

section
variable {x : FVec Ideal S1024x256 .f32} {r : Fin 1024} {v : Fin 256 → ℝ} (hx : ∀ a, x (ix2 r a) = ((v a : ℝ) : EReal))
include hx

/-- A row of reals has a real greatest element. -/
theorem rowMax_real : ∃ M : ℝ, rowMax x (ix1 r) = (M : EReal) := by
  have h : rowMax x (ix1 r) = max (Ideal.ofBits .f32 0xFF800000#32)
      (Finset.univ.fold max (Ideal.ofBits .f32 0xFF800000#32) fun a => x (ix2 r a)) := by
    pointwise [rowMax]
  obtain ⟨M, hM⟩ := fold_max_real v
  refine ⟨M, ?_⟩
  rw [h, lit_bot, show (fun a => x (ix2 r a)) = fun a => ((v a : ℝ) : EReal) from funext hx, hM]
  exact max_eq_right bot_le

/-- The log-softmax of a row of reals. -/
theorem logSoftmax_real (a : Fin 256) :
    logSoftmax x (ix2 r a) = ((v a - Real.log (∑ b, Real.exp (v b)) : ℝ) : EReal) := by
  obtain ⟨M, hM⟩ := rowMax_real hx
  have c : ∀ b, centred x (ix2 r b) = ((v b : ℝ) : EReal) - (M : EReal) := fun b => by
    have h : centred x (ix2 r b) = x (ix2 r b) - rowMax x (ix1 r) := by pointwise [centred]
    rw [h, hM, hx]
  have h : logSoftmax x (ix2 r a) = centred x (ix2 r a) - Ideal.log (∑ b, Ideal.exp (centred x (ix2 r b))) := by
    pointwise [logSoftmax]
  rw [h, c, Finset.sum_congr rfl fun b _ => congrArg Ideal.exp (c b), log_sum, ← EReal.coe_sub, ← EReal.coe_sub]
  exact congrArg Real.toEReal (by ring)

end

/-- Minus infinity less anything has exponential zero, and the logarithm of a sum of such is minus infinity. -/
theorem log_sum_bot {n : Nat} (M : Fin n → EReal) : Ideal.log (∑ k, Ideal.exp (⊥ - M k)) = ⊥ := by
  have e : ∀ k, Ideal.exp (⊥ - M k) = 0 := fun k => by rw [sub_eq_add_neg, EReal.bot_add, Ideal.exp_bot]
  rw [Finset.sum_congr rfl fun k _ => e k, Finset.sum_const_zero, ← EReal.coe_zero, Ideal.log_coe, if_pos (le_refl _)]

/-- The log-softmax of a row that has plus infinity is minus infinity throughout. -/
theorem logSoftmax_top {x : FVec Ideal S1024x256 .f32} {r : Fin 1024} (hx : ∃ a, x (ix2 r a) = ⊤) (a : Fin 256) :
    logSoftmax x (ix2 r a) = ⊥ := by
  have g : rowMax x (ix1 r) = max (Ideal.ofBits .f32 0xFF800000#32)
      (Finset.univ.fold max (Ideal.ofBits .f32 0xFF800000#32) fun a => x (ix2 r a)) := by
    pointwise [rowMax]
  have top : rowMax x (ix1 r) = ⊤ := by
    obtain ⟨b, hb⟩ := hx
    rw [g]
    exact top_le_iff.1 (le_max_of_le_right ((Finset.le_fold_max _).2 (Or.inr ⟨b, Finset.mem_univ _, hb.ge⟩)))
  have c : ∀ b, centred x (ix2 r b) = ⊥ := fun b => by
    have h : centred x (ix2 r b) = x (ix2 r b) - rowMax x (ix1 r) := by pointwise [centred]
    rw [h, top, sub_eq_add_neg, EReal.neg_top, EReal.add_bot]
  have h : logSoftmax x (ix2 r a) = centred x (ix2 r a) - Ideal.log (∑ b, Ideal.exp (centred x (ix2 r b))) := by
    pointwise [logSoftmax]
  rw [h, c, sub_eq_add_neg, EReal.bot_add]

/-- A byte's word names its own column. -/
theorem column_byte (lut : IVec S255x256 32) (i : Fin 255) (b q : Fin 256) (h : lut (ix2 i b) = BitVec.ofNat 32 q.val) :
    (columns lut (ix3 i b 0)).toInt.toNat = q.val := by
  have e : columns lut (ix3 i b 0) = Scalar.select (IntOp.cmpi .slt (lut (ix2 i b)) 0#32)
      (IntOp.addi (lut (ix2 i b)) 256#32) (lut (ix2 i b)) := by
    pointwise [columns]
  have own : ∀ q : Fin 256, (Scalar.select (IntOp.cmpi .slt (BitVec.ofNat 32 q.val) 0#32)
      (IntOp.addi (BitVec.ofNat 32 q.val) 256#32) (BitVec.ofNat 32 q.val)).toInt.toNat = q.val := by
    decide +kernel
  rw [e, h, own]

section
variable {p q : FVec Ideal S1024x256 .f32} {r : Fin 1024} {v w : Fin 256 → ℝ} (hp : ∀ a, p (ix2 r a) = ((v a : ℝ) : EReal))
  (hq : ∀ a, q (ix2 r a) = ((w a : ℝ) : EReal))
include hp hq

/-- The sum of the two factors' logarithms, at a pair of the table. -/
theorem pairs_real (lut : IVec S255x256 32) (i : Fin 255) (z b : Fin 256) (h : lut (ix2 i z) = BitVec.ofNat 32 b.val) :
    pairs p q (columns lut) (ix3 r i z) = ((v i.succ + w b : ℝ) : EReal) := by
  have e : pairs p q (columns lut) (ix3 r i z) = p (ix2 r ⟨1 + i.val, by omega⟩)
      + Host.gather gather_S1024x256_S255x256x1_S1024x255x256_0_1_n_n_1_2_10241 q (columns lut) (ix3 r i z) := by
    pointwise [pairs]
  have col : (⟨min (columns lut (ix3 i z 0)).toInt.toNat 255, by omega⟩ : Fin 256) = b := by
    refine Fin.ext ?_
    show min (columns lut (ix3 i z 0)).toInt.toNat 255 = b.val
    rw [column_byte lut i z b h]
    omega
  have row : (⟨1 + i.val, by omega⟩ : Fin 256) = i.succ := Fin.ext (Nat.add_comm _ _)
  rw [e, gather_at, col, row, hp, hq, ← EReal.coe_add]

end

/-- The logarithm of the sum over the pairs, of reals. -/
theorem pairsSum_real {t : FVec Ideal S1024x255x256 .f32} {r : Fin 1024} {z : Fin 256} {w : Fin 255 → ℝ}
    (h : ∀ i, t (ix3 r i z) = ((w i : ℝ) : EReal)) :
    pairsSum t (ix2 r z) = ((Real.log (∑ i, Real.exp (w i)) : ℝ) : EReal) := by
  have e : pairsSum t (ix2 r z)
      = Ideal.log (∑ i, Ideal.exp (t (ix3 r i z) - pairsMax t (ix2 r z))) + pairsMax t (ix2 r z) := by
    pointwise [pairsSum]
  have g : pairsMax t (ix2 r z) = Finset.univ.fold max (Ideal.ofBits .f32 0xFF800000#32) fun i => t (ix3 r i z) := by
    pointwise [pairsMax]
  obtain ⟨M, hM⟩ := fold_max_real w
  have top : pairsMax t (ix2 r z) = (M : EReal) := by
    rw [g, lit_bot, show (fun i => t (ix3 r i z)) = fun i => ((w i : ℝ) : EReal) from funext h, hM]
  rw [e, top, Finset.sum_congr rfl fun i _ => by rw [h i], log_sum, ← EReal.coe_add, sub_add_cancel]

/-- The logarithm of the sum of the two exponentials, of reals. -/
theorem stackedSum_real {t : FVec Ideal S2x1024x1 .f32} {r : Fin 1024} {w : Fin 2 → ℝ}
    (h : ∀ k, t (ix3 k r 0) = ((w k : ℝ) : EReal)) :
    stackedSum t (ix2 r 0) = ((Real.log (∑ k, Real.exp (w k)) : ℝ) : EReal) := by
  have e : stackedSum t (ix2 r 0)
      = Ideal.log (∑ k, Ideal.exp (t (ix3 k r 0) - stackedMax t (ix2 r 0))) + stackedMax t (ix2 r 0) := by
    pointwise [stackedSum]
  have g : stackedMax t (ix2 r 0) = Finset.univ.fold max (Ideal.ofBits .f32 0xFF800000#32) fun k => t (ix3 k r 0) := by
    pointwise [stackedMax]
  obtain ⟨M, hM⟩ := fold_max_real w
  have top : stackedMax t (ix2 r 0) = (M : EReal) := by
    rw [g, lit_bot, show (fun k => t (ix3 k r 0)) = fun k => ((w k : ℝ) : EReal) from funext h, hM]
  rw [e, top, Finset.sum_congr rfl fun k _ => by rw [h k], log_sum, ← EReal.coe_add, sub_add_cancel]

/-- A pair is minus infinity where the first factor's logarithm is. -/
theorem pairs_bot {p q : FVec Ideal S1024x256 .f32} {r : Fin 1024} (hp : ∀ a, p (ix2 r a) = ⊥) (k : IVec S255x256x1 32)
    (i : Fin 255) (z : Fin 256) : pairs p q k (ix3 r i z) = ⊥ := by
  have e : pairs p q k (ix3 r i z) = p (ix2 r ⟨1 + i.val, by omega⟩)
      + Host.gather gather_S1024x256_S255x256x1_S1024x255x256_0_1_n_n_1_2_10241 q k (ix3 r i z) := by
    pointwise [pairs]
  rw [e, hp, EReal.bot_add]

/-- The logarithm of the sum over the pairs, all of them minus infinity. -/
theorem pairsSum_bot {t : FVec Ideal S1024x255x256 .f32} {r : Fin 1024} {z : Fin 256} (h : ∀ i, t (ix3 r i z) = ⊥) :
    pairsSum t (ix2 r z) = ⊥ := by
  have e : pairsSum t (ix2 r z)
      = Ideal.log (∑ i, Ideal.exp (t (ix3 r i z) - pairsMax t (ix2 r z))) + pairsMax t (ix2 r z) := by
    pointwise [pairsSum]
  rw [e, Finset.sum_congr rfl fun i _ => by rw [h i], log_sum_bot, EReal.bot_add]

/-- Column zero of the reference where both logarithms are minus infinity. -/
theorem whole_zero_bot {s p : FVec Ideal S1024x256 .f32} {r : Fin 1024} (hs : s (ix2 r 0) = ⊥) (hp : p (ix2 r 0) = ⊥) :
    whole s p (ix2 r 0) = ⊥ := by
  have e : whole s p (ix2 r 0) = stackedSum (stacked s p) (ix2 r 0) := by pointwise [whole]
  have e0 : stacked s p (ix3 0 r 0) = s (ix2 r 0) := by pointwise [stacked]
  have e1 : stacked s p (ix3 1 r 0) = p (ix2 r 0) := by pointwise [stacked]
  have sum : stackedSum (stacked s p) (ix2 r 0)
      = Ideal.log (∑ k, Ideal.exp (stacked s p (ix3 k r 0) - stackedMax (stacked s p) (ix2 r 0)))
        + stackedMax (stacked s p) (ix2 r 0) := by
    pointwise [stackedSum]
  have bot : ∀ k : Fin 2, stacked s p (ix3 k r 0) = ⊥ := fun k => match k with
    | ⟨0, _⟩ => e0.trans hs
    | ⟨1, _⟩ => e1.trans hp
  rw [e, sum, Finset.sum_congr rfl fun k _ => by rw [bot k], log_sum_bot, EReal.bot_add]

/-- Column zero of the reference, from the two logarithms. -/
theorem whole_zero {s p : FVec Ideal S1024x256 .f32} {r : Fin 1024} {a b : ℝ} (hs : s (ix2 r 0) = (a : EReal))
    (hp : p (ix2 r 0) = (b : EReal)) :
    whole s p (ix2 r 0) = ((Real.log (Real.exp a + Real.exp b) : ℝ) : EReal) := by
  have e : whole s p (ix2 r 0) = stackedSum (stacked s p) (ix2 r 0) := by pointwise [whole]
  have e0 : stacked s p (ix3 0 r 0) = s (ix2 r 0) := by pointwise [stacked]
  have e1 : stacked s p (ix3 1 r 0) = p (ix2 r 0) := by pointwise [stacked]
  rw [e, stackedSum_real (w := ![a, b]) fun k => ?_, Fin.sum_univ_two]
  · rfl
  · match k with
    | ⟨0, _⟩ => exact e0.trans hs
    | ⟨1, _⟩ => exact e1.trans hp

/-- The other columns of the reference, from the pairs. -/
theorem whole_succ (s p : FVec Ideal S1024x256 .f32) (r : Fin 1024) (z : Fin 256) (hz : z.val ≠ 0) :
    whole s p (ix2 r z) = s (ix2 r z) := by
  have e : whole s p (ix2 r z) = if h : z.val < 1 then stackedSum (stacked s p) (ix2 r ⟨z.val, by omega⟩)
      else s (ix2 r ⟨1 + (z.val - 1), by omega⟩) := by
    pointwise [whole]
  rw [e, dif_neg (by omega)]
  congr 2
  exact Fin.ext (by show 1 + (z.val - 1) = z.val; omega)

/-- The reference computes the logarithms of the product's probabilities. -/
theorem refTerm_eq (x y : FVec Ideal S1024x256 .f32) (lut : IVec S255x256 32) (h : Inputs x y lut) :
    refTerm x y lut = result x y lut := by
  refine funext fun (j : S1024x256.Idx) => ?_
  obtain ⟨r, z, rfl⟩ : ∃ r z, j = ix2 r z := ⟨j 0, j 1, funext fun k => by fin_cases k <;> rfl⟩
  by_cases top : ∃ a, x (ix2 r a) = ⊤
  · refine Eq.trans ?_ (if_pos top).symm
    have first := logSoftmax_top top
    have sums : ∀ c : Fin 256, pairsSum (pairs (logSoftmax x) (logSoftmax y) (columns lut)) (ix2 r c) = ⊥ := fun c =>
      pairsSum_bot fun i => pairs_bot first (columns lut) i c
    show whole _ _ (ix2 r z) = ⊥
    by_cases hz : z.val = 0
    · obtain rfl : z = 0 := Fin.ext hz
      exact whole_zero_bot (sums 0) (first 0)
    · rw [whole_succ _ _ r z hz, sums z]
  refine Eq.trans ?_ (if_neg top).symm
  let v : Fin 256 → ℝ := fun a => (x (ix2 r a)).toReal
  let w : Fin 256 → ℝ := fun a => (y (ix2 r a)).toReal
  have hx : ∀ a, x (ix2 r a) = ((v a : ℝ) : EReal) := fun a => (row_real (h.left r a) fun e => top ⟨a, e⟩).1
  have hy : ∀ a, y (ix2 r a) = ((w a : ℝ) : EReal) := fun a => by
    obtain ⟨u, hu, -⟩ := h.right r a
    show _ = (((y (ix2 r a)).toReal : ℝ) : EReal)
    rw [hu, EReal.toReal_coe]
  have sums : ∀ c : Fin 256, pairsSum (pairs (logSoftmax x) (logSoftmax y) (columns lut)) (ix2 r c)
      = ((refPairs v w (quot lut) c : ℝ) : EReal) := fun c =>
    pairsSum_real fun i => pairs_real (logSoftmax_real hx) (logSoftmax_real hy) lut i c (quot lut i c) (h.word i c)
  show whole _ _ (ix2 r z) = ((logProb v w (quot lut) z : ℝ) : EReal)
  by_cases hz : z.val = 0
  · obtain rfl : z = 0 := Fin.ext hz
    rw [whole_zero (sums 0) (logSoftmax_real hx 0), ref_zero v w h.quotients]
  · rw [whole_succ _ _ r z hz, sums z, refPairs_eq v w (quot lut) z hz]

end Cert.GfConv.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_gf256_inputs
public import proofs.«01_k».proof.Proof.Final
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and every semaphore counter at zero. -/
theorem reference_quiescent : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant's value is the one that the idealized kernel states. -/
theorem named : Cert.preserves_Kernel_KernelIdeal :=
  IdealRules.named_const.statement Cert.KernelIdeal.κ "log_n" .f32 0x40B15208#32 ((Real.log 255 : ℝ) : EReal) rfl

/-- On the precondition's inputs the kernel's result and the reference's are one array. -/
theorem equal : Cert.algebraic_KernelIdeal_ReferenceIdeal_pre_gf256_inputs (hKernelIdeal := Cert.KernelIdeal.Gen.facts)
    (hReferenceIdeal := Cert.ReferenceIdeal.Gen.facts) (hPre_gf256_inputs := Cert.Pre_gf256_inputs.Gen.facts) := by
  intro m ρ m' ρ' hpre hagree
  have inputs : ∀ c, Cert.GfConv.InputsOf m c := fun c => Cert.GfConv.inputs_of_pre _ _ _ (hpre c)
  refine ⟨fun c => Cert.GfConv.resultOf m c, Cert.GfConv.run m ρ inputs,
    (θ_run _ _ _).mono (fun _ h c => ⟨(h c).1.trans ?_, (h c).2⟩) (Cert.ReferenceIdeal.Value.run (F := Ideal) m' ρ')⟩
  rw [Cert.GfConv.Reference.res_eq, (hagree c).1, (hagree c).2.1, (hagree c).2.2]
  exact Cert.GfConv.Reference.refTerm_eq _ _ _ (inputs c)

/-- Everything that the certificate claims. -/
theorem claim : Cert.Claim := ⟨Cert.Kernel.Gen.facts, Cert.KernelIdeal.Gen.facts, Cert.ReferenceIdeal.Gen.facts, Cert.Pre_gf256_inputs.Gen.facts,
  fun m ρ _ => Cert.Kernel.Gen.frame m ρ, fun m ρ _ => Cert.KernelIdeal.Gen.frame m ρ, fun m ρ _ => Cert.KernelIdeal.Gen.frame m ρ,
  reference_quiescent, fun m ρ _ => reference_quiescent m ρ trivial, named, equal⟩

end Cert.Proof

end
